-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S2x128x1024 : Shape := ⟨3, ![2, 128, 1024]⟩
abbrev S3x128x1024 : Shape := ⟨3, ![3, 128, 1024]⟩
abbrev S6 : Shape := ⟨1, ![6]⟩
abbrev S3 : Shape := ⟨1, ![3]⟩
abbrev S_ : Shape := ⟨0, ![]⟩
abbrev S128x1024 : Shape := ⟨2, ![128, 1024]⟩
abbrev S1x128x1024 : Shape := ⟨3, ![1, 128, 1024]⟩
abbrev S1 : Shape := ⟨1, ![1]⟩
abbrev S256x256 : Shape := ⟨2, ![256, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .hbm, ⟨2, _⟩ => ⟨S1024x256, .f32⟩
  | .local _ .vmem, ⟨0, _⟩ => ⟨S256x1024, .bf16⟩
  | .local _ .vmem, ⟨1, _⟩ => ⟨S1024x256, .bf16⟩
  | .local _ .vmem, ⟨2, _⟩ => ⟨S1024x256, .f32⟩
  | .local _ .vmem, ⟨3, _⟩ => ⟨S2x128x1024, .bf16⟩
  | .local _ .vmem, ⟨4, _⟩ => ⟨S3x128x1024, .bf16⟩
  | .local _ .vmem, ⟨5, _⟩ => ⟨S3x128x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_23 : BitVec 32 := 1#32
  let v25 : BitVec 32 := Scalar.muli v7 c1_i32_23
  let v26 : BitVec 32 := Scalar.addi c0_i32_24 v25
  v26.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v35 : BitVec 32 := Scalar.muli v5 c1_i32_33
  let v36 : BitVec 32 := Scalar.addi c0_i32_34 v35
  v36.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v45 : BitVec 32 := Scalar.muli v7 c1_i32_43
  let v46 : BitVec 32 := Scalar.addi c0_i32_44 v45
  v46.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_52 : BitVec 32 := 1#32
  let v55 : BitVec 32 := Scalar.muli v5 c1_i32_52
  let v56 : BitVec 32 := Scalar.addi c0_i32_53 v55
  v56.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v72 : BitVec 32 := Scalar.muli v2 c256_i32
  let v76 : Index := Scalar.indexCast v72
  let c0_67 : Index := 0#32
  ![v76.toNat, 0]
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_82 : BitVec 32 := 1#32
  let v86 : BitVec 32 := Scalar.muli v7 c1_i32_82
  let v87 : BitVec 32 := Scalar.addi c0_i32_83 v86
  v87.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_101 : BitVec 32 := 1#32
  let v104 : BitVec 32 := Scalar.muli v5 c1_i32_101
  let v105 : BitVec 32 := Scalar.addi c0_i32_102 v104
  v105.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_110 : BitVec 32 := 256#32
  let v116 : BitVec 32 := Scalar.muli v5 c256_i32_110
  let v120 : Index := Scalar.indexCast v116
  let c0_113 : Index := 0#32
  ![v120.toNat, 0]
def k0_off3 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_117 : BitVec 32 := 256#32
  let v124 : BitVec 32 := Scalar.muli v7 c256_i32_117
  let c128_i32 : BitVec 32 := 128#32
  let v125 : BitVec 32 := Scalar.addi v124 c128_i32
  let v129 : Index := Scalar.indexCast v125
  let c0_120 : Index := 0#32
  ![v129.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c256_i32_134 : BitVec 32 := 256#32
  let v141 : BitVec 32 := Scalar.muli v5 c256_i32_134
  let c128_i32_135 : BitVec 32 := 128#32
  let v142 : BitVec 32 := Scalar.addi v141 c128_i32_135
  let v146 : Index := Scalar.indexCast v142
  let c0_138 : Index := 0#32
  ![v146.toNat, 0]
def k0_off5 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c256_i32_152 : BitVec 32 := 256#32
  let v158 : BitVec 32 := Scalar.muli v7 c256_i32_152
  let v162 : Index := Scalar.indexCast v158
  let c0_155 : Index := 0#32
  ![v162.toNat, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Slab.lean ====
/-
# One slice of a scratch buffer

The kernel's scratch buffers are used a slice at a time. Here: loading a slice that is owned, storing over it, the
two halves of its ownership, and a buffer as its slices and back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Memref
public import Idealize.ShloMosaic.Lib.ViewIndex
public import Idealize.ShloMosaic.Lib.Writes
public import Idealize.ShloMosaic.Lib.Pipeline.Launch
public import Idealize.ShloMosaic.Lib.Pipeline.Kit
public import Idealize.ShloMosaic.Lib.Tactic

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Loading an owned slice continues at its contents and gives the slice back. -/
theorem load_slice (c : Dev nD) {s : Shape} {e : EltTy} (M : Memref sig .tc .vmem s e) (r : Rect s) (hr : ∀ a, r.stride a = 1)
    (q : PosShare TreeShare) (X : r.shape.Idx → Elt F e) {hl : M.view.LoadsAt r.toLoadRect} {α : Type} {Q : α → sProp 𝕄}
    {k : (r.shape.Idx → Elt F e) → Prog (TpuEff nD τ sig (Elt F) Λ₀ .tc) α} :
    (ownsTc c (M.slice r hr) q X : sProp 𝕄)
      ⊢ iprop((ownsTc c (M.slice r hr) q X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold ownsTc owns
  iintro ⟨%f, %hf, H⟩ Hk
  iapply (wp_load_rect 𝒱₀ (c : Thread nD τ) none Set.univ (m := M) (r := r) (S := (M.slice r hr).view.set) (Finset.Subset.refl _)) $$ H
  iintro H
  rw [show (M.access r).read (Elt F) f = X from hf]
  iapply Hk
  iexists f; isplitr
  · ipureintro; exact hf
  · iexact H

/-- Storing over an owned slice leaves it owned at the stored contents. -/
theorem store_slice (c : Dev nD) {s : Shape} {e : EltTy} (M : Memref sig .tc .vmem s e) (r : Rect s) (hr : ∀ a, r.stride a = 1)
    (X w : r.shape.Idx → Elt F e) {hx : (M.access r).Stores Finset.univ} {hm : Finset.univ = Finset.univ ∨ ∀ a, r.stride a = 1}
    {α : Type} {Q : α → sProp 𝕄} {k : PUnit → Prog (TpuEff nD τ sig (Elt F) Λ₀ .tc) α} :
    (ownsTc c (M.slice r hr) fullShare X : sProp 𝕄)
      ⊢ iprop((ownsTc c (M.slice r hr) fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold ownsTc owns
  iintro ⟨%f, %hf, H⟩ Hk
  iapply (wp_store 𝒱₀ (c : Thread nD τ) none Set.univ (m := M) (r := r) (S := (M.slice r hr).view.set) (Finset.Subset.refl _)) $$ H
  iintro H
  iapply Hk
  iexists _; isplitr
  · ipureintro; exact View.read_write_univ (v := M.access r) f w
  · iexact H

/-- A slice owned at a share is owned at the share's two halves. -/
theorem owns_split (c : Dev nD) {s : Shape} {e : EltTy} (M : Memref sig .tc .vmem s e) (q : PosShare TreeShare) (X : s.Idx → Elt F e) :
    (ownsTc c M q X : sProp 𝕄) ⊢ iprop(ownsTc c M q.left X ∗ ownsTc c M q.right X) := by
  unfold ownsTc owns
  iintro ⟨%f, %hf, H⟩
  ihave H' := (pointsTo_share (PosShare.mem_left_op_right q)).1 $$ H
  icases H' with ⟨H₁, H₂⟩
  isplitl [H₁]
  · iexists f; isplitr
    · ipureintro; exact hf
    · iexact H₁
  · iexists f; isplitr
    · ipureintro; exact hf
    · iexact H₂

/-- The two halves of a slice's ownership at the same contents join. -/
theorem owns_join (c : Dev nD) {s : Shape} {e : EltTy} (M : Memref sig .tc .vmem s e) (q : PosShare TreeShare) (X : s.Idx → Elt F e) :
    (iprop(ownsTc c M q.left X ∗ ownsTc c M q.right X) : sProp 𝕄) ⊢ ownsTc c M q X := by
  unfold ownsTc owns
  iintro ⟨⟨%f, %hf, H₁⟩, %g, %hg, H₂⟩
  iexists f; isplitr
  · ipureintro; exact hf
  ihave H₃ := (Entails.of_eq (show ((M.view.loc (c : Thread nD τ)) ↦[M.view.set]{q.right} g : sProp 𝕄) = ((M.view.loc (c : Thread nD τ)) ↦[M.view.set]{q.right} f) from
    pointsTo_congr fun i hi => by
      obtain ⟨x, -, rfl⟩ := Finset.mem_map.mp hi
      exact View.eq_of_read_eq (congrFun (hg.trans hf.symm) x))) $$ H₂
  iapply (pointsTo_share (PosShare.mem_left_op_right q)).2 $$ [H₁ H₃]
  isplitl [H₁] <;> iassumption

/-- A slice owned at some contents. -/
def ownsAny (c : Dev nD) {s : Shape} {e : EltTy} (M : Memref sig .tc .vmem s e) : sProp 𝕄 := iprop(∃ X, ownsTc c M fullShare X)

instance (c : Dev nD) {s : Shape} {e : EltTy} (M : Memref sig .tc .vmem s e) :
    BI.Storable (upEmb : UEmb _ 𝕄) (ownsAny (F := F) c M) := by unfold ownsAny; infer_instance

theorem ownsAny_intro (c : Dev nD) {s : Shape} {e : EltTy} (M : Memref sig .tc .vmem s e) (X : s.Idx → Elt F e) :
    (ownsTc c M fullShare X : sProp 𝕄) ⊢ ownsAny c M := by
  unfold ownsAny; iintro H; iexists X; iexact H

/-! ## The slices of the three scratch buffers -/

abbrev xR0 : Rect S2x128x1024 := Rect.unit (s := S2x128x1024) ![0, 0, 0] S1x128x1024.size inb_S2x128x1024_S1x128x1024_0_0_0
abbrev xR1 : Rect S2x128x1024 := Rect.unit (s := S2x128x1024) ![1, 0, 0] S1x128x1024.size inb_S2x128x1024_S1x128x1024_1_0_0
abbrev bR0 : Rect S3x128x1024 := Rect.unit (s := S3x128x1024) ![0, 0, 0] S1x128x1024.size inb_S3x128x1024_S1x128x1024_0_0_0
abbrev bR1 : Rect S3x128x1024 := Rect.unit (s := S3x128x1024) ![1, 0, 0] S1x128x1024.size inb_S3x128x1024_S1x128x1024_1_0_0
abbrev bR2 : Rect S3x128x1024 := Rect.unit (s := S3x128x1024) ![2, 0, 0] S1x128x1024.size inb_S3x128x1024_S1x128x1024_2_0_0

/-- The device's own two half blocks, -/
abbrev xS0 : Memref sig .tc .vmem S1x128x1024 .bf16 := (Memref.whole cc0_scratch0).slice xR0 (fun _ => rfl)
abbrev xS1 : Memref sig .tc .vmem S1x128x1024 .bf16 := (Memref.whole cc0_scratch0).slice xR1 (fun _ => rfl)
/-- the three that arrive from the left, -/
abbrev lS0 : Memref sig .tc .vmem S1x128x1024 .bf16 := (Memref.whole cc0_scratch1).slice bR0 (fun _ => rfl)
abbrev lS1 : Memref sig .tc .vmem S1x128x1024 .bf16 := (Memref.whole cc0_scratch1).slice bR1 (fun _ => rfl)
abbrev lS2 : Memref sig .tc .vmem S1x128x1024 .bf16 := (Memref.whole cc0_scratch1).slice bR2 (fun _ => rfl)
/-- and the three that arrive from the right. -/
abbrev rS0 : Memref sig .tc .vmem S1x128x1024 .bf16 := (Memref.whole cc0_scratch2).slice bR0 (fun _ => rfl)
abbrev rS1 : Memref sig .tc .vmem S1x128x1024 .bf16 := (Memref.whole cc0_scratch2).slice bR1 (fun _ => rfl)
abbrev rS2 : Memref sig .tc .vmem S1x128x1024 .bf16 := (Memref.whole cc0_scratch2).slice bR2 (fun _ => rfl)

/-- A slice as a copy names it: the leading axis of size one dropped. -/
abbrev sq (M : Memref sig .tc .vmem S1x128x1024 .bf16) : Memref sig .tc .vmem S128x1024 .bf16 :=
  M.squeeze S128x1024 squeezes_S1x128x1024_S128x1024

def xRs : Fin 2 → Rect S2x128x1024 := fun | 0 => xR0 | 1 => xR1
def bRs : Fin 3 → Rect S3x128x1024 := fun | 0 => bR0 | 1 => bR1 | 2 => bR2

theorem xRs_unit (t : Fin 2) (a) : (xRs t).stride a = 1 := by fin_cases t <;> rfl
theorem bRs_unit (t : Fin 3) (a) : (bRs t).stride a = 1 := by fin_cases t <;> rfl

/-- An element lies in slice `n` exactly when its leading coordinate is `n`. -/
theorem mem_lead {A : Nat} {n : Nat} (inb) (x : (⟨3, ![A, 128, 1024]⟩ : Shape).Idx) :
    x ∈ (Rect.unit (s := ⟨3, ![A, 128, 1024]⟩) ![n, 0, 0] S1x128x1024.size inb).set ↔ (x 0).val = n := by
  rw [Rect.mem_set_unit, Fin.forall_fin_succ, Fin.forall_fin_succ, Fin.forall_fin_succ]
  have h1 : (x 1).val < 128 := (x 1).isLt
  have h2 : (x 2).val < 1024 := (x 2).isLt
  show (n ≤ (x 0).val ∧ (x 0).val < n + 1) ∧ (0 ≤ (x 1).val ∧ (x 1).val < 0 + 128) ∧ (0 ≤ (x 2).val ∧ (x 2).val < 0 + 1024) ∧ _ ↔ _
  constructor
  · rintro ⟨⟨_, _⟩, _⟩; omega
  · intro h; exact ⟨by omega, by omega, by omega, fun i => i.elim0⟩

theorem mem_xRs (t : Fin 2) (x : S2x128x1024.Idx) : x ∈ (xRs t).set ↔ (x 0).val = t.val := by
  fin_cases t
  · exact mem_lead inb_S2x128x1024_S1x128x1024_0_0_0 x
  · exact mem_lead inb_S2x128x1024_S1x128x1024_1_0_0 x
theorem mem_bRs (t : Fin 3) (x : S3x128x1024.Idx) : x ∈ (bRs t).set ↔ (x 0).val = t.val := by
  fin_cases t
  · exact mem_lead inb_S3x128x1024_S1x128x1024_0_0_0 x
  · exact mem_lead inb_S3x128x1024_S1x128x1024_1_0_0 x
  · exact mem_lead inb_S3x128x1024_S1x128x1024_2_0_0 x

theorem xRs_disj (t t' : Fin 2) (h : t ≠ t') : Disjoint (xRs t).set (xRs t').set :=
  Finset.disjoint_left.mpr fun x hx hx' => h (Fin.ext (((mem_xRs t x).mp hx).symm.trans ((mem_xRs t' x).mp hx')))
theorem bRs_disj (t t' : Fin 3) (h : t ≠ t') : Disjoint (bRs t).set (bRs t').set :=
  Finset.disjoint_left.mpr fun x hx hx' => h (Fin.ext (((mem_bRs t x).mp hx).symm.trans ((mem_bRs t' x).mp hx')))

theorem xRs_cover : (Finset.univ : Finset (Fin 2)).biUnion (fun t => (xRs t).set) = Finset.univ :=
  Finset.eq_univ_iff_forall.mpr fun x => Finset.mem_biUnion.mpr ⟨x 0, Finset.mem_univ _, (mem_xRs _ x).mpr rfl⟩
theorem bRs_cover : (Finset.univ : Finset (Fin 3)).biUnion (fun t => (bRs t).set) = Finset.univ :=
  Finset.eq_univ_iff_forall.mpr fun x => Finset.mem_biUnion.mpr ⟨x 0, Finset.mem_univ _, (mem_bRs _ x).mpr rfl⟩

/-- The buffer of own blocks is its two slices, -/
theorem split_x (c : Dev nD) (f : Buf (Elt F) ((c : Thread nD τ).loc cc0_scratch0)) :
    (((c : Thread nD τ).loc cc0_scratch0) ↦{fullShare} f : sProp 𝕄) ⊢ iprop(ownsAny c xS0 ∗ ownsAny c xS1) := by
  refine (Entails.of_eq (owns_whole (c : Thread nD τ) cc0_scratch0 fullShare f).symm).trans
    ((owns_rects (c : Thread nD τ) (Memref.whole cc0_scratch0) fullShare xRs xRs_unit xRs_disj xRs_cover f).trans ?_)
  rw [bigSep_univ_eq_bigSepL [(0 : Fin 2), (1 : Fin 2)] (by decide) (by decide), bigSepL_cons_cons, bigSepL_singleton]
  exact BI.sep_mono (ownsAny_intro c xS0 _) (ownsAny_intro c xS1 _)

/-- and a receive buffer its three: that of the blocks from the left, -/
theorem split_l (c : Dev nD) (f : Buf (Elt F) ((c : Thread nD τ).loc cc0_scratch1)) :
    (((c : Thread nD τ).loc cc0_scratch1) ↦{fullShare} f : sProp 𝕄) ⊢ iprop(ownsAny c lS0 ∗ ownsAny c lS1 ∗ ownsAny c lS2) := by
  refine (Entails.of_eq (owns_whole (c : Thread nD τ) cc0_scratch1 fullShare f).symm).trans
    ((owns_rects (c : Thread nD τ) (Memref.whole cc0_scratch1) fullShare bRs bRs_unit bRs_disj bRs_cover f).trans ?_)
  rw [bigSep_univ_eq_bigSepL [(0 : Fin 3), (1 : Fin 3), (2 : Fin 3)] (by decide) (by decide), bigSepL_cons_cons, bigSepL_cons_cons, bigSepL_singleton]
  exact BI.sep_mono (ownsAny_intro c lS0 _) (BI.sep_mono (ownsAny_intro c lS1 _) (ownsAny_intro c lS2 _))

/-- and that of the blocks from the right. -/
theorem split_r (c : Dev nD) (f : Buf (Elt F) ((c : Thread nD τ).loc cc0_scratch2)) :
    (((c : Thread nD τ).loc cc0_scratch2) ↦{fullShare} f : sProp 𝕄) ⊢ iprop(ownsAny c rS0 ∗ ownsAny c rS1 ∗ ownsAny c rS2) := by
  refine (Entails.of_eq (owns_whole (c : Thread nD τ) cc0_scratch2 fullShare f).symm).trans
    ((owns_rects (c : Thread nD τ) (Memref.whole cc0_scratch2) fullShare bRs bRs_unit bRs_disj bRs_cover f).trans ?_)
  rw [bigSep_univ_eq_bigSepL [(0 : Fin 3), (1 : Fin 3), (2 : Fin 3)] (by decide) (by decide), bigSepL_cons_cons, bigSepL_cons_cons, bigSepL_singleton]
  exact BI.sep_mono (ownsAny_intro c rS0 _) (BI.sep_mono (ownsAny_intro c rS1 _) (ownsAny_intro c rS2 _))

/-- Two disjoint parts of a buffer, each at some contents, are their union at some contents. -/
theorem any_union {ℓ : Loc nD τ sig} {I J : Finset (Idx ℓ)} (h : Disjoint I J) :
    (iprop((∃ f, ℓ ↦[I]{fullShare} f) ∗ (∃ f, ℓ ↦[J]{fullShare} f)) : sProp 𝕄) ⊢ iprop(∃ f, ℓ ↦[I ∪ J]{fullShare} f) := by
  iintro ⟨⟨%f, H⟩, %g, H'⟩
  iexists _
  iapply (pointsTo_join h) $$ [H H']
  isplitl [H] <;> iassumption

/-- The same for three. -/
theorem any_union3 {ℓ : Loc nD τ sig} {I J K : Finset (Idx ℓ)} (h : Disjoint J K) (h' : Disjoint I (J ∪ K)) :
    (iprop((∃ f, ℓ ↦[I]{fullShare} f) ∗ (∃ f, ℓ ↦[J]{fullShare} f) ∗ (∃ f, ℓ ↦[K]{fullShare} f)) : sProp 𝕄)
      ⊢ iprop(∃ f, ℓ ↦[I ∪ (J ∪ K)]{fullShare} f) := by
  iintro ⟨H0, H⟩
  ihave H' := (any_union h) $$ H
  iapply (any_union h') $$ [H0 H']
  isplitl [H0] <;> iassumption

theorem ownsAny_pts (c : Dev nD) {s : Shape} {e : EltTy} (M : Memref sig .tc .vmem s e) :
    (ownsAny c M : sProp 𝕄) ⊢ iprop(∃ f, (M.view.loc (c : Thread nD τ)) ↦[M.view.set]{fullShare} f) := by
  unfold ownsAny ownsTc owns; iintro ⟨%X, %f, -, H⟩; iexists f; iexact H

/-- The slices of a buffer, at whatever contents, are the buffer at some contents: the own blocks', -/
theorem join_x (c : Dev nD) :
    (iprop(ownsAny c xS0 ∗ ownsAny c xS1) : sProp 𝕄) ⊢ iprop(∃ f, ((c : Thread nD τ).loc cc0_scratch0) ↦{fullShare} f) := by
  have hs (t : Fin 2) : ((View.whole cc0_scratch0).slice (xRs t)).set = (xRs t).set := View.set_slice_whole _ _
  have h0 : xS0.view.set = (xRs 0).set := hs 0
  have h1 : xS1.view.set = (xRs 1).set := hs 1
  have hu : (xRs 0).set ∪ (xRs 1).set = (Finset.univ : Finset S2x128x1024.Idx) := by
    rw [← xRs_cover]; ext x; simp [Fin.exists_fin_two]
  refine (BI.sep_mono (ownsAny_pts c xS0) (ownsAny_pts c xS1)).trans ?_
  rw [h0, h1]
  refine (any_union (xRs_disj 0 1 (by decide))).trans ?_
  exact Entails.of_eq (by rw [hu])

theorem bRs_union : (bRs 0).set ∪ ((bRs 1).set ∪ (bRs 2).set) = (Finset.univ : Finset S3x128x1024.Idx) := by
  refine Finset.eq_univ_iff_forall.mpr fun x => ?_
  simp only [Finset.mem_union, mem_bRs]
  have h0 : (x 0).val < 3 := (x 0).isLt
  show (x 0).val = 0 ∨ (x 0).val = 1 ∨ (x 0).val = 2
  omega

theorem bRs_disj_rest : Disjoint (bRs 0).set ((bRs 1).set ∪ (bRs 2).set) :=
  Finset.disjoint_union_right.mpr ⟨bRs_disj 0 1 (by decide), bRs_disj 0 2 (by decide)⟩

/-- the left ones', -/
theorem join_l (c : Dev nD) :
    (iprop(ownsAny c lS0 ∗ ownsAny c lS1 ∗ ownsAny c lS2) : sProp 𝕄) ⊢ iprop(∃ f, ((c : Thread nD τ).loc cc0_scratch1) ↦{fullShare} f) := by
  have hs (t : Fin 3) : ((View.whole cc0_scratch1).slice (bRs t)).set = (bRs t).set := View.set_slice_whole _ _
  have h0 : lS0.view.set = (bRs 0).set := hs 0
  have h1 : lS1.view.set = (bRs 1).set := hs 1
  have h2 : lS2.view.set = (bRs 2).set := hs 2
  refine (BI.sep_mono (ownsAny_pts c lS0) (BI.sep_mono (ownsAny_pts c lS1) (ownsAny_pts c lS2))).trans ?_
  rw [h0, h1, h2]
  refine (any_union3 (bRs_disj 1 2 (by decide)) bRs_disj_rest).trans ?_
  exact Entails.of_eq (by rw [bRs_union])

/-- and the right ones'. -/
theorem join_r (c : Dev nD) :
    (iprop(ownsAny c rS0 ∗ ownsAny c rS1 ∗ ownsAny c rS2) : sProp 𝕄) ⊢ iprop(∃ f, ((c : Thread nD τ).loc cc0_scratch2) ↦{fullShare} f) := by
  have hs (t : Fin 3) : ((View.whole cc0_scratch2).slice (bRs t)).set = (bRs t).set := View.set_slice_whole _ _
  have h0 : rS0.view.set = (bRs 0).set := hs 0
  have h1 : rS1.view.set = (bRs 1).set := hs 1
  have h2 : rS2.view.set = (bRs 2).set := hs 2
  refine (BI.sep_mono (ownsAny_pts c rS0) (BI.sep_mono (ownsAny_pts c rS1) (ownsAny_pts c rS2))).trans ?_
  rw [h0, h1, h2]
  refine (any_union3 (bRs_disj 1 2 (by decide)) bRs_disj_rest).trans ?_
  exact Entails.of_eq (by rw [bRs_union])

end Cert.Relay

end
-- ==== Proof.Protocol.lean ====
/-
# The protocol of the two relays

Each of the four devices on the ring sends the two halves of its block of rows both ways round. Thirteen semaphores a
device: the barrier, six that its own transfers leave by, three that blocks arrive on from the left and three from the
right. Who pays each, what it hands over with which contents, in what order the waits come.
-/
module

public import proofs.«01_k».proof.Proof.Slab

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The ring -/

set_option backward.proofsInPublic true in
/-- The device on the right, -/
def nxt (c : Dev nD) : Dev nD := ⟨(c.val + 1) % 4, Nat.mod_lt _ (by decide)⟩
set_option backward.proofsInPublic true in
/-- and the one on the left. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide
theorem prv_prv (c : Dev nD) : prv (prv c) = nxt (nxt c) := by revert c; decide
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = prv c := Fin.ext (k0_dev8_eq c)

/-! ## The semaphores -/

abbrev barS : Sem sig := (SemArray.scalar (sig.barrier 0 rfl) : Sems sig S_).sem

/-- A device's thirteen semaphores: the barrier; `1 … 6` its transfers' own; `7, 8, 9` the arrivals from the left;
    `10, 11, 12` those from the right. -/
abbrev csem : Fin 13 → SemLoc sig
  | 0 => .reg barS
  | 1 => .dma 3 | 2 => .dma 4 | 3 => .dma 5 | 4 => .dma 6 | 5 => .dma 7 | 6 => .dma 8
  | 7 => .dma 9 | 8 => .dma 10 | 9 => .dma 11
  | 10 => .dma 12 | 11 => .dma 13 | 12 => .dma 14
/-- The twelve of the kernel's own arrays. -/
abbrev osem : Fin 12 → SemLoc sig
  | 0 => .dma 3 | 1 => .dma 4 | 2 => .dma 5 | 3 => .dma 6 | 4 => .dma 7 | 5 => .dma 8
  | 6 => .dma 9 | 7 => .dma 10 | 8 => .dma 11 | 9 => .dma 12 | 10 => .dma 13 | 11 => .dma 14
abbrev cell (c : Dev nD) (k : Fin 13) : GSem nD τ sig := ((c : Thread nD τ), csem k)
abbrev kcell (ck : Dev nD × Fin 13) : GSem nD τ sig := cell ck.1 ck.2

theorem send0 : ((cc0_scratch3.slice (Rect.unit (s := S6) ![0] S1.size inb_S6_S1_0)).squeeze S_ squeezes_S1_S_).sem = (3 : DmaSem sig) := rfl
theorem send1 : ((cc0_scratch3.slice (Rect.unit (s := S6) ![1] S1.size inb_S6_S1_1)).squeeze S_ squeezes_S1_S_).sem = (4 : DmaSem sig) := rfl
theorem send2 : ((cc0_scratch3.slice (Rect.unit (s := S6) ![2] S1.size inb_S6_S1_2)).squeeze S_ squeezes_S1_S_).sem = (5 : DmaSem sig) := rfl
theorem send3 : ((cc0_scratch3.slice (Rect.unit (s := S6) ![3] S1.size inb_S6_S1_3)).squeeze S_ squeezes_S1_S_).sem = (6 : DmaSem sig) := rfl
theorem send4 : ((cc0_scratch3.slice (Rect.unit (s := S6) ![4] S1.size inb_S6_S1_4)).squeeze S_ squeezes_S1_S_).sem = (7 : DmaSem sig) := rfl
theorem send5 : ((cc0_scratch3.slice (Rect.unit (s := S6) ![5] S1.size inb_S6_S1_5)).squeeze S_ squeezes_S1_S_).sem = (8 : DmaSem sig) := rfl
theorem left0 : ((cc0_scratch4.slice (Rect.unit (s := S3) ![0] S1.size inb_S3_S1_0)).squeeze S_ squeezes_S1_S_).sem = (9 : DmaSem sig) := rfl
theorem left1 : ((cc0_scratch4.slice (Rect.unit (s := S3) ![1] S1.size inb_S3_S1_1)).squeeze S_ squeezes_S1_S_).sem = (10 : DmaSem sig) := rfl
theorem left2 : ((cc0_scratch4.slice (Rect.unit (s := S3) ![2] S1.size inb_S3_S1_2)).squeeze S_ squeezes_S1_S_).sem = (11 : DmaSem sig) := rfl
theorem right0 : ((cc0_scratch5.slice (Rect.unit (s := S3) ![0] S1.size inb_S3_S1_0)).squeeze S_ squeezes_S1_S_).sem = (12 : DmaSem sig) := rfl
theorem right1 : ((cc0_scratch5.slice (Rect.unit (s := S3) ![1] S1.size inb_S3_S1_1)).squeeze S_ squeezes_S1_S_).sem = (13 : DmaSem sig) := rfl
theorem right2 : ((cc0_scratch5.slice (Rect.unit (s := S3) ![2] S1.size inb_S3_S1_2)).squeeze S_ squeezes_S1_S_).sem = (14 : DmaSem sig) := rfl

/-- What one transfer of half a block credits. -/
def N : ℕ := (sq lS0).view.dmaCredit
theorem N_pos : 0 < N := View.dmaCredit_pos _ (by decide)

/-! ## Contents -/

/-- Device `c`'s block of rows of the first argument and of columns of the second, as the launch's memory holds them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev xM : Memref sig .tc .vmem S256x1024 .bf16 := Memref.whole cc0_stg0_0
abbrev wM : Memref sig .tc .vmem S1024x256 .bf16 := Memref.whole cc0_stg1_0
abbrev oM : Memref sig .tc .vmem S1024x256 .f32 := Memref.whole cc0_stg2_0
abbrev topR : Rect S256x1024 := Rect.unit (s := S256x1024) ![0, 0] S128x1024.size inb_S256x1024_S128x1024_0_0
abbrev botR : Rect S256x1024 := Rect.unit (s := S256x1024) ![128, 0] S128x1024.size inb_S256x1024_S128x1024_128_0

/-- The upper and the lower half of device `c`'s block, as the kernel stores and sends them. -/
def xTop (c : Dev nD) : S1x128x1024.Idx → Elt F .bf16 := k0_pay1 (xM.view.readAt (Elt F) topR.toLoadRect (xstg m ρ c))
def xBot (c : Dev nD) : S1x128x1024.Idx → Elt F .bf16 := k0_pay2 (xM.view.readAt (Elt F) botR.toLoadRect (xstg m ρ c))

/-! ## The schedule -/

/-- What a device's transfer semaphores hand it: its own, the lent share of the source back; the arrivals', the slice
    with the half block of the device it came from, one or two steps away. -/
def carried (c : Dev nD) : ℕ → sProp 𝕄
  | 3 => ownsTc c xS0 fullShare.right.left (xTop m ρ c)
  | 4 => ownsTc c xS1 fullShare.right.left (xBot m ρ c)
  | 5 => ownsTc c xS1 fullShare.right.right (xBot m ρ c)
  | 6 => ownsTc c xS0 fullShare.right.right (xTop m ρ c)
  | 7 => ownsTc c lS0 fullShare.right (xTop m ρ (prv c))
  | 8 => ownsTc c rS1 fullShare.right (xBot m ρ (nxt c))
  | 9 => ownsTc c lS0 fullShare (xTop m ρ (prv c))
  | 10 => ownsTc c lS1 fullShare (xBot m ρ (prv c))
  | 11 => ownsTc c lS2 fullShare (xTop m ρ (prv (prv c)))
  | 12 => ownsTc c rS0 fullShare (xTop m ρ (nxt c))
  | 13 => ownsTc c rS1 fullShare (xBot m ρ (nxt c))
  | 14 => ownsTc c rS2 fullShare (xBot m ρ (nxt (nxt c)))
  | _ => iprop(emp)

/-- The receive slices of device `c` that its left, and its right, neighbour fills. -/
def fromLeft (c : Dev nD) : sProp 𝕄 := iprop(ownsAny c lS0 ∗ ownsAny c lS1 ∗ ownsAny c lS2)
def fromRight (c : Dev nD) : sProp 𝕄 := iprop(ownsAny c rS0 ∗ ownsAny c rS1 ∗ ownsAny c rS2)

/-- At the barrier the right neighbour (`true`) hands the slices it is to be sent to from its left, the left neighbour
    (`false`) those it is to be sent to from its right. -/
def handed (c : Dev nD) : SemLoc sig → Bool → sProp 𝕄
  | .reg _, true => fromLeft (nxt c)
  | .reg _, false => fromRight (prv c)
  | .dma q, _ => carried m ρ c q.val

def duty : SemLoc sig → Finset Bool
  | .reg _ => Finset.univ
  | .dma _ => {false}
def units : SemLoc sig → ℕ
  | .reg _ => 1
  | .dma _ => N
theorem units_pos (s : SemLoc sig) : 0 < units s := by cases s <;> first | exact Nat.one_pos | exact N_pos

def rd : Rounds.Schedule (GSem nD τ sig) Bool 𝕄 where
  duties g r := if r = 0 then duty g.2 else ∅
  unitless _ := False
  amount g _ _ := units g.2
  payload g _ d := handed m ρ g.1.1 g.2 d
  amount_pos g _ _ _ := units_pos g.2

instance carried_storable (c : Dev nD) (n : ℕ) : BI.Storable (upEmb : UEmb _ 𝕄) (carried (F := F) m ρ c n) := by
  unfold carried; split <;> infer_instance
instance rd_payload_storable (g : GSem nD τ sig) (r : ℕ) (d : Bool) :
    BI.Storable (upEmb : UEmb _ 𝕄) ((rd (F := F) m ρ).payload g r d) := by
  show BI.Storable upEmb (handed m ρ g.1.1 g.2 d)
  unfold handed; split
  · unfold fromLeft; infer_instance
  · unfold fromRight; infer_instance
  · infer_instance

theorem duties_zero (g : GSem nD τ sig) : (rd (F := F) m ρ).duties g 0 = duty g.2 := by dsimp only [rd]; exact if_pos rfl
theorem duties_later (g : GSem nD τ sig) : ∀ r, 1 ≤ r → (rd (F := F) m ρ).duties g r = ∅ := fun r hr => by dsimp only [rd]; exact if_neg (by omega)
theorem expect_bar (c : Dev nD) : (rd (F := F) m ρ).expect (cell c 0) 0 = 2 := by
  unfold Schedule.expect Schedule.amountOf
  rw [duties_zero]
  exact Finset.sum_const _
theorem expect_dma (c : Dev nD) (q : DmaSem sig) : (rd (F := F) m ρ).expect ((c : Thread nD τ), .dma q) 0 = N := by
  unfold Schedule.expect Schedule.amountOf
  rw [duties_zero]
  exact Finset.sum_singleton _ _
theorem rest_bar (c : Dev nD) :
    bigSep ((rd (F := F) m ρ).duties (cell c 0) 0 \ ∅) (fun d => (rd (F := F) m ρ).payload (cell c 0) 0 d)
      = iprop(fromRight (prv c) ∗ fromLeft (nxt c)) := by
  rw [Finset.sdiff_empty, duties_zero]
  show bigSep Finset.univ _ = _
  rw [bigSep_univ_eq_bigSepL [false, true] (by decide) (by decide), bigSepL_cons_cons, bigSepL_singleton]
  rfl
theorem rest_dma (c : Dev nD) (q : DmaSem sig) :
    bigSep ((rd (F := F) m ρ).duties ((c : Thread nD τ), .dma q) 0 \ ∅) (fun d => (rd (F := F) m ρ).payload ((c : Thread nD τ), .dma q) 0 d)
      = carried m ρ c q.val := by
  rw [Finset.sdiff_empty, duties_zero]
  show bigSep {false} _ = _
  rw [bigSep_singleton]
  rfl

/-! ## What each device owes at launch, and the order of the waits -/

/-- Device `c`'s payments, last one first: the forwarded halves, its own four transfers, the two barrier signals. -/
def O₇ (c : Dev nD) : CellTallies nD τ sig Unit := tallyAt (cell (prv c) 12) () N
def O₆ (c : Dev nD) : CellTallies nD τ sig Unit := O₇ c + tallyAt (cell (nxt c) 9) () N
def O₅ (c : Dev nD) : CellTallies nD τ sig Unit := O₆ c + tallyAt (cell (prv c) 10) () N
def O₄ (c : Dev nD) : CellTallies nD τ sig Unit := O₅ c + tallyAt (cell (nxt c) 8) () N
def O₃ (c : Dev nD) : CellTallies nD τ sig Unit := O₄ c + tallyAt (cell (prv c) 11) () N
def O₂ (c : Dev nD) : CellTallies nD τ sig Unit := O₃ c + tallyAt (cell (nxt c) 7) () N
def O₁ (c : Dev nD) : CellTallies nD τ sig Unit := O₂ c + tallyAt (cell (nxt c) 0) () 1
def O₀ (c : Dev nD) : CellTallies nD τ sig Unit := O₁ c + tallyAt (cell (prv c) 0) () 1

def L (g : GSem nD τ sig) : Finset Unit := if g.1.2 = .tc then {()} else ∅
/-- The waits' order: the staging copies and the transfers' own semaphores, the barrier, the arrivals from a
    neighbour, the arrivals from two steps away. -/
def lvS : SemLoc sig → ℕ
  | .reg _ => 1
  | .dma q => if q.val < 9 then 0 else if q.val = 11 ∨ q.val = 14 then 3 else 2
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Every tally of `O` is at a device's core, on a semaphore above level `n`. -/
def Above (n : ℕ) (O : CellTallies nD τ sig Unit) : Prop := ∀ g u, 0 < O g u → g.1.2 = .tc ∧ n < lvS g.2

theorem above_zero (n : ℕ) : Above n 0 := fun g u h => absurd h (Nat.lt_irrefl 0)
theorem above_tally {n : ℕ} (c : Dev nD) (k : Fin 13) (N : ℕ) (h : n < lvS (csem k)) : Above n (tallyAt (cell c k) () N) := fun g u hg => by
  rw [tallyAt_apply] at hg
  by_cases hc : g = cell c k
  · subst hc; exact ⟨rfl, h⟩
  · rw [if_neg fun h' => hc h'.1] at hg; exact absurd hg (Nat.lt_irrefl 0)
theorem above_add {n : ℕ} {O : CellTallies nD τ sig Unit} (hO : Above n O) (c : Dev nD) (k : Fin 13) (N : ℕ) (h : n < lvS (csem k)) :
    Above n (O + tallyAt (cell c k) () N) := fun g u hg => by
  rw [Pi.add_apply, Finsupp.add_apply] at hg
  rcases Nat.eq_zero_or_pos (O g u) with h0 | h0
  · rw [h0, Nat.zero_add] at hg; exact above_tally c k N h g u hg
  · exact hO g u h0

theorem above_O₇ (c : Dev nD) : Above 2 (O₇ c) := above_tally _ _ _ (by decide)
theorem above_O₆ (c : Dev nD) : Above 2 (O₆ c) := above_add (above_O₇ c) _ _ _ (by decide)
theorem above_mono {n n' : ℕ} (h : n' ≤ n) {O : CellTallies nD τ sig Unit} (hO : Above n O) : Above n' O :=
  fun g u hg => ⟨(hO g u hg).1, lt_of_le_of_lt h (hO g u hg).2⟩
theorem above_O₂ (c : Dev nD) : Above 1 (O₂ c) :=
  above_add (above_add (above_add (above_add (above_mono (by decide) (above_O₆ c)) _ _ _ (by decide)) _ _ _ (by decide)) _ _ _ (by decide)) _ _ _ (by decide)
theorem above_O₀ (c : Dev nD) : Above 0 (O₀ c) :=
  above_add (above_add (above_mono (by decide) (above_O₂ c)) _ _ _ (by decide)) _ _ _ (by decide)

/-- A device may wait on a semaphore while all it owes lies above it. -/
theorem mayWait (c : Dev nD) (sm : SemLoc sig) (n : ℕ) (hn : lvS sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The ghost state of a device's body -/

/-- Every semaphore of every device: its invariant, and that its only round is reached. -/
def records (K : Dev nD × Fin 13 → ℕ) : sProp 𝕄 :=
  iprop(bigSep Finset.univ (fun ck : Dev nD × Fin 13 => cellInv ER (rd m ρ) (K ck) (kcell ck))
    ∗ bigSep Finset.univ (fun ck : Dev nD × Fin 13 => reached ER (kcell ck) 0))
instance records_persistent (K : Dev nD × Fin 13 → ℕ) : BI.Persistent (records m ρ K) := by unfold records; infer_instance

theorem inv_at (K : Dev nD × Fin 13 → ℕ) (c : Dev nD) (k : Fin 13) : records m ρ K ⊢ cellInv ER (rd m ρ) (K (c, k)) (cell c k) := by
  unfold records; iintro ⟨H, -⟩
  have h : bigSep Finset.univ (fun ck : Dev nD × Fin 13 => cellInv ER (rd m ρ) (K ck) (kcell ck)) ⊢ cellInv ER (rd m ρ) (K (c, k)) (cell c k) :=
    bigSep_elim (Finset.mem_univ (c, k))
  iapply h; iexact H
theorem reached_at (K : Dev nD × Fin 13 → ℕ) (c : Dev nD) (k : Fin 13) : records m ρ K ⊢ reached ER (cell c k) 0 := by
  unfold records; iintro ⟨-, H⟩
  have h : (bigSep Finset.univ (fun ck : Dev nD × Fin 13 => reached ER (kcell ck) 0) : sProp 𝕄) ⊢ reached ER (cell c k) 0 :=
    bigSep_elim (Finset.mem_univ (c, k))
  iapply h; iexact H

/-- What a device owes, whatever it waited on before. -/
def owing (c : Dev nD) (O : CellTallies nD τ sig Unit) : sProp 𝕄 := iprop(∃ W, owes (c : Thread nD τ) O W)
/-- It has not yet consumed, and has consumed, its semaphore `k`'s round. -/
abbrev fresh (c : Dev nD) (k : Fin 13) : sProp 𝕄 := atPos ER (cell c k) 0 ∅ 0
abbrev spent (c : Dev nD) (k : Fin 13) : sProp 𝕄 := atPos ER (cell c k) (0 + 1) ∅ 0

end Cert.Relay

end
-- ==== Proof.Rules.lean ====
/-
# One step of the body

A transfer of a slice to a neighbour, a wait for a transfer, and the two sides of the barrier, each as one rule over the
protocol.
-/
module

public import proofs.«01_k».proof.Proof.Protocol

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 13 → ℕ)

/-- A weakest precondition of the kernel's core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A transfer from slice `A` of device `c` to slice `B` of device `p`, both known by the protocol to carry `X`: the
    source goes to the transfer's own semaphore, the filled destination to the arrival's. -/
theorem wp_put (c n p : Dev nD) (hn : n = p) (kS kR : Fin 13) {s v : DmaSem sig} (hs : csem kS = .dma s) (hv : csem kR = .dma v)
    (A B : Memref sig .tc .vmem S1x128x1024 .bf16) (q : PosShare TreeShare) (X : S1x128x1024.Idx → Elt F .bf16)
    (hA : carried m ρ c s.val = ownsTc c A q X) (hB : carried m ρ p v.val = ownsTc p B fullShare X)
    (hN : (sq B).view.dmaCredit = N) (O O' : CellTallies nD τ sig Unit) (hO : O' = O + tallyAt ((p : Thread nD τ), SemLoc.dma v) () N)
    {hsc : (sq B : Memref sig (Dev.tc n : Thread nD τ).2.kind .vmem S128x1024 .bf16).view.ref.isScScratch = false}
    {hsrc : (sq A).view.WordExact} {hdst : (sq B).view.WordExact}
    {hsem : DmaTarget.Typed .vmem (.dma v) (.remote (Dev.tc n : Thread nD τ) (sq B) (.dma s) hsc)}
    {α : Type} {Q : α → sProp 𝕄} {k : PUnit → Prog (TpuEff nD τ sig (Elt F) Λ₀ .tc) α} :
    iprop(records m ρ K ∗ ownsTc c A q X ∗ ownsAny p B ∗ owing c O'
        ∗ dutyTok ER ((c : Thread nD τ), SemLoc.dma s) 0 false ∗ dutyTok ER ((p : Thread nD τ), SemLoc.dma v) 0 false)
      ⊢ iprop(((cred (tallyAt ((c : Thread nD τ), SemLoc.dma s) () N) ∗ owing c O) -∗ wpc c (k ⟨⟩) Q)
          -∗ wpc c (.op (.enqueueDma (sq A) (.remote (Dev.tc n : Thread nD τ) (sq B) (.dma s) hsc) (.dma v) hsrc hdst hsem) k) Q) := by
  subst hn
  have i₁ := inv_at m ρ K c kS
  have i₂ := inv_at m ρ K n kR
  have r₁ := reached_at m ρ K c kS
  have r₂ := reached_at m ρ K n kR
  rw [show cell c kS = ((c : Thread nD τ), SemLoc.dma s) from congrArg _ hs] at i₁ r₁
  rw [show cell n kR = ((n : Thread nD τ), SemLoc.dma v) from congrArg _ hv] at i₂ r₂
  unfold owing ownsAny ownsTc owns
  iintro ⟨#HR, ⟨%fs, %hfs, Hs⟩, ⟨%Y, %fd, -, Hd⟩, ⟨%W, HO⟩, Ht, Ht'⟩ Hk
  iapply (Rounds.wp_send_pointsTo 𝒱₀ ER (rd m ρ) (c : Thread nD τ) none (κ₁ := K (c, kS)) (κ₂ := K (n, kR))
    (c' := (n : Thread nD τ)) (src := sq A) (dst := sq B) (sS := .dma s) (sem := .dma v) (q := q) (fs := fs) (fd := fd)
    (r₁ := 0) (r₂ := 0) (d₁ := false) (d₂ := false)
    (by rw [duties_zero]; exact Finset.mem_singleton_self _) (by rw [duties_zero]; exact Finset.mem_singleton_self _)
    () () N hN rfl rfl O hO (W := W)
    (by
      show _ ⊢ carried m ρ c s.val
      rw [hA]; unfold ownsTc owns
      iintro H; iexists fs; isplitr
      · ipureintro; exact hfs
      · rw [show (sq A).view.set = A.view.set from View.set_reshape _ _]; iexact H)
    (by
      show _ ⊢ carried m ρ n v.val
      rw [hB]; unfold ownsTc owns
      iintro H; iexists _; isplitr
      swap
      · rw [show (sq B).view.set = B.view.set from View.set_reshape _ _]; iexact H
      · ipureintro
        rw [← hfs]
        funext i
        have hi : i = Shape.reshapeEquiv squeezes_S1x128x1024_S128x1024.numel_eq ((Shape.reshapeEquiv squeezes_S1x128x1024_S128x1024.numel_eq).symm i) :=
          (Equiv.apply_symm_apply _ _).symm
        rw [hi]
        exact View.read_write_reshape _ _ _ _ _)) $$ [Hs Hd HO Ht Ht']
  · isplitr; · iapply i₁; iexact HR
    isplitr; · iapply i₂; iexact HR
    isplitl [Hs]; · rw [show (sq A).view.set = A.view.set from View.set_reshape _ _]; iexact Hs
    isplitl [Hd]; · rw [show (sq B).view.set = B.view.set from View.set_reshape _ _]; iexact Hd
    isplitl [HO]; · iexact HO
    isplitl [Ht]; · iexact Ht
    isplitr; · iapply r₁; iexact HR
    isplitl [Ht']; · iexact Ht'
    iapply r₂; iexact HR
  iintro ⟨Hc, HO⟩
  iapply Hk
  isplitl [Hc]; · iexact Hc
  iexists W; iexact HO

/-- A wait for one transfer, by the semaphore's level below all that is owed: what it carries. -/
theorem wp_take (c : Dev nD) (k : Fin 13) {q : DmaSem sig} (hq : csem k = .dma q) (O : CellTallies nD τ sig Unit)
    (n : ℕ) (hn : lvS (.dma q) ≤ n) (hO : Above n O)
    {src dst : Memref sig .tc .vmem S128x1024 .bf16} {hsrc : src.view.WordExact} {hdst : dst.view.WordExact} (hN : dst.view.dmaCredit = N)
    {α : Type} {Q : α → sProp 𝕄} {k' : PUnit → Prog (TpuEff nD τ sig (Elt F) Λ₀ .tc) α} :
    iprop(records m ρ K ∗ levAts L lv ∗ cred (tallyAt ((c : Thread nD τ), SemLoc.dma q) () N) ∗ owing c O
        ∗ atPos ER ((c : Thread nD τ), SemLoc.dma q) 0 ∅ 0)
      ⊢ iprop(((owing c O ∗ atPos ER ((c : Thread nD τ), SemLoc.dma q) (0 + 1) ∅ 0 ∗ carried m ρ c q.val) -∗ wpc c (k' ⟨⟩) Q)
          -∗ wpc c (.op (.waitDma2 q src dst hsrc hdst) k') Q) := by
  have i₁ := inv_at m ρ K c k
  rw [show cell c k = ((c : Thread nD τ), SemLoc.dma q) from congrArg _ hq] at i₁
  unfold owing
  iintro ⟨#HR, #HL, Hc, ⟨%W, HO⟩, Hat⟩ Hk
  iapply (Rounds.wp_wait_rest_token 𝒱₀ ER (rd m ρ) (c : Thread nD τ) none (κ := K (c, k))
      (wpE_waitDma2_eq 𝒱₀ (c : Thread nD τ) none Set.univ) (Set.mem_univ _) () (O := O) (W := W) (R := 0) (m := 0) (T := ∅)
      (by rw [Nat.zero_add, hN, expect_dma])) $$ [Hc HO Hat]
  · isplitr; · iapply i₁; iexact HR
    isplitl [Hc]; · iexact Hc
    isplitl [HO]; · iexact HO
    isplitr; · iapply (mayWait c (.dma q) n hn O hO); iexact HL
    iexact Hat
  iintro ⟨HO, Hat, -, Hpay⟩
  iapply Hk
  isplitl [HO]; · iexists _; iexact HO
  isplitl [Hat]; · iexact Hat
  iapply (Entails.of_eq (rest_dma m ρ c q)); iexact Hpay

/-- A signal of a neighbour's barrier, handing it what the protocol says. -/
theorem wp_tell (c n p : Dev nD) (hn : n = p) (d : Bool) (P : sProp 𝕄) (hP : handed m ρ p (.reg barS) d = P)
    (O O' : CellTallies nD τ sig Unit) (hO : O' = O + tallyAt (cell p 0) () 1)
    {α : Type} {Q : α → sProp 𝕄} {k : PUnit → Prog (TpuEff nD τ sig (Elt F) Λ₀ .tc) α} :
    iprop(records m ρ K ∗ owing c O' ∗ dutyTok ER (cell p 0) 0 d ∗ P)
      ⊢ iprop((owing c O -∗ wpc c (k ⟨⟩) Q)
          -∗ wpc c (semSignalWord n barS 1#32 >>= k) Q) := by
  subst hn hP
  simp only [semSignalWord, Prog.lift, Prog.bind_op, Prog.bind_ret]
  have i₁ := inv_at m ρ K n 0
  have r₁ := reached_at m ρ K n 0
  unfold owing
  iintro ⟨#HR, ⟨%W, HO⟩, Ht, HP⟩ Hk
  iapply (Rounds.wp_signal 𝒱₀ ER (rd m ρ) (c : Thread nD τ) none (dst := (n : Thread nD τ)) (κ := K (n, 0))
      (d := d) (by rw [duties_zero]; exact Finset.mem_univ _) rfl () O hO) $$ [HO Ht HP]
  · isplitr; · iapply i₁; iexact HR
    isplitl [HO]; · iexact HO
    isplitl [Ht]; · iexact Ht
    isplitl [HP]; · iapply (Entails.of_eq (show handed m ρ n (.reg barS) d = (rd m ρ).payload (cell n 0) 0 d from rfl)); iexact HP
    iapply r₁; iexact HR
  iintro HO
  iapply Hk
  iexists W; iexact HO

/-- The wait for both neighbours at the barrier: the slices the device may fill. -/
theorem wp_hear (c : Dev nD) (O : CellTallies nD τ sig Unit) (hO : Above 1 O)
    {α : Type} {Q : α → sProp 𝕄} {k : PUnit → Prog (TpuEff nD τ sig (Elt F) Λ₀ .tc) α} :
    iprop(records m ρ K ∗ levAts L lv ∗ cred (tallyAt (cell c 0) () 2) ∗ owing c O ∗ fresh c 0)
      ⊢ iprop(((owing c O ∗ spent c 0 ∗ fromRight (prv c) ∗ fromLeft (nxt c)) -∗ wpc c (k ⟨⟩) Q)
          -∗ wpc c (semWaitWord barS 2#32 >>= k) Q) := by
  simp only [semWaitWord, Prog.lift, Prog.bind_op, Prog.bind_ret]
  have i₁ := inv_at m ρ K c 0
  unfold owing
  iintro ⟨#HR, #HL, Hc, ⟨%W, HO⟩, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Hat]
  · isplitr; · iapply i₁; iexact HR
    isplitl [Hc]; · iexact Hc
    isplitl [HO]; · iexact HO
    isplitr; · iapply (mayWait c (.reg barS) 1 (by decide) O hO); iexact HL
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-- A spent semaphore closes at zero. -/
theorem close_cell (c : Dev nD) (k : Fin 13) :
    iprop(records m ρ K ∗ spent c k) ⊢ (iprop(|={Set.univ}=> semVal (cell c k) 0) : sProp 𝕄) := by
  have i₁ := inv_at m ρ K c k
  iintro ⟨#HR, Hat⟩
  imod (Rounds.cell_close ER (rd m ρ) (Set.mem_univ (K (c, k))) (fun h => h) (R := 0 + 1) (duties_later m ρ (cell c k))) $$ [Hat] with Hz
  · isplitr; · iapply i₁; iexact HR
    iexact Hat
  imodintro; iexact Hz

end Cert.Relay

end
-- ==== Proof.Parts.lean ====
/-
# The body's first half: the barrier, the own half blocks out to both neighbours, the own rows of the result
-/
module

public import proofs.«01_k».proof.Proof.Rules

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem done (c : Dev nD) {α : Type} {a : α} {Q : α → sProp 𝕄} : Q a ⊢ wpc c (.ret a) Q := by
  rw [wpc, wp_ret]; exact fupd_intro

/-! ## What a transfer's two ends are called by the protocol -/

theorem carried_l0 (c : Dev nD) : carried m ρ (nxt c) 9 = ownsTc (nxt c) lS0 fullShare (xTop m ρ c) := by
  show ownsTc _ _ _ (xTop m ρ (prv (nxt c))) = _; rw [prv_nxt]
theorem carried_l1 (c : Dev nD) : carried m ρ (nxt c) 10 = ownsTc (nxt c) lS1 fullShare (xBot m ρ c) := by
  show ownsTc _ _ _ (xBot m ρ (prv (nxt c))) = _; rw [prv_nxt]
theorem carried_l2 (c : Dev nD) : carried m ρ (nxt c) 11 = ownsTc (nxt c) lS2 fullShare (xTop m ρ (prv c)) := by
  show ownsTc _ _ _ (xTop m ρ (prv (prv (nxt c)))) = _; rw [prv_nxt]
theorem carried_r0 (c : Dev nD) : carried m ρ (prv c) 12 = ownsTc (prv c) rS0 fullShare (xTop m ρ c) := by
  show ownsTc _ _ _ (xTop m ρ (nxt (prv c))) = _; rw [nxt_prv]
theorem carried_r1 (c : Dev nD) : carried m ρ (prv c) 13 = ownsTc (prv c) rS1 fullShare (xBot m ρ c) := by
  show ownsTc _ _ _ (xBot m ρ (nxt (prv c))) = _; rw [nxt_prv]
theorem carried_r2 (c : Dev nD) : carried m ρ (prv c) 14 = ownsTc (prv c) rS2 fullShare (xBot m ρ (nxt c)) := by
  show ownsTc _ _ _ (xBot m ρ (nxt (nxt (prv c)))) = _; rw [nxt_prv]

/-! ## The result's windows -/

abbrev wR : Rect S1024x256 := Rect.unit (s := S1024x256) ![0, 0] S1024x256.size inb_S1024x256_S1024x256_0_0
/-- The second argument's block as the kernel loads it. -/
abbrev wVal (c : Dev nD) : Vec F S1024x256 .bf16 := wM.view.readAt (Elt F) wR.toLoadRect (wstg m ρ c)

abbrev oR1 (c : Dev nD) : Rect S1024x256 := Rect.unit (s := S1024x256) (k0_off1 c) S256x256.size (k0_off1_inb c)
abbrev oR2 (c : Dev nD) : Rect S1024x256 := Rect.unit (s := S1024x256) (k0_off2 c) S128x256.size (k0_off2_inb c)
abbrev oR3 (c : Dev nD) : Rect S1024x256 := Rect.unit (s := S1024x256) (k0_off3 c 1#32) S128x256.size (k0_off3_inb c 0)
abbrev oR4 (c : Dev nD) : Rect S1024x256 := Rect.unit (s := S1024x256) (k0_off4 c) S128x256.size (k0_off4_inb c)
abbrev oR5 (c : Dev nD) : Rect S1024x256 := Rect.unit (s := S1024x256) (k0_off5 c 1#32) S128x256.size (k0_off5_inb c 0)
abbrev oR6 (c : Dev nD) : Rect S1024x256 := Rect.unit (s := S1024x256) (k0_off5 c 2#32) S128x256.size (k0_off5_inb c 1)
abbrev oR7 (c : Dev nD) : Rect S1024x256 := Rect.unit (s := S1024x256) (k0_off3 c 2#32) S128x256.size (k0_off3_inb c 1)

/-- The result's buffer with the rows of `r` replaced. -/
def upd (r : Rect S1024x256) (f : (cc0_stg2_0 : Ref sig .tc).ty.Contents (Elt F)) (v : r.shape.Idx → Elt F .f32) :
    (cc0_stg2_0 : Ref sig .tc).ty.Contents (Elt F) :=
  (oM.access r).write (Elt F) f v Finset.univ

/-- A load of some of the result's rows, whose value is not used, and a store over them. -/
theorem wp_rows (c : Dev nD) (r : Rect S1024x256) (f : (cc0_stg2_0 : Ref sig .tc).ty.Contents (Elt F)) (v : r.shape.Idx → Elt F .f32)
    {hl : oM.view.LoadsAt r.toLoadRect} {hx : (oM.access r).Stores Finset.univ} {hm : Finset.univ = Finset.univ ∨ ∀ a, r.stride a = 1}
    {α : Type} {Q : α → sProp 𝕄} {k : PUnit → Prog (TpuEff nD τ sig (Elt F) Λ₀ .tc) α} :
    ((((c : Thread nD τ).loc cc0_stg2_0) ↦{fullShare} f) : sProp 𝕄)
      ⊢ iprop(((((c : Thread nD τ).loc cc0_stg2_0) ↦{fullShare} upd r f v) -∗ wpc c (k ⟨⟩) Q)
        -∗ wpc c (.op (.load oM r.toLoadRect hl) fun _ => .op (.store oM r v Finset.univ hx hm) k) Q) := by
  iintro H Hk
  iapply (wp_load 𝒱₀ (c : Thread nD τ) none Set.univ (m := oM) (Finset.subset_univ _)) $$ H; iintro H
  iapply (wp_store 𝒱₀ (c : Thread nD τ) none Set.univ (m := oM) (r := r) (Mk := Finset.univ) (Finset.subset_univ _)) $$ H; iintro H
  iapply Hk; iexact H

/-! ## The parts -/

/-- The barrier both ways, and the own block's two halves stored. -/
theorem part1 (K : Dev nD × Fin 13 → ℕ) (c : Dev nD)  {Q : _ → sProp 𝕄} :
    iprop(records m ρ K ∗ levAts L lv ∗ cred (tallyAt (cell c 0) () 2) ∗ owing c (O₀ c) ∗ fresh c 0 ∗ dutyTok ER (cell (prv c) 0) 0 true ∗ dutyTok ER (cell (nxt c) 0) 0 false ∗ fromLeft c ∗ fromRight c ∗ (((c : Thread nD τ).loc cc0_stg0_0) ↦{fullShare} xstg m ρ c) ∗ ownsAny c xS0 ∗ ownsAny c xS1)
      ⊢ iprop((∀ v2 v5 v7 v9, (owing c (O₂ c) ∗ spent c 0 ∗ fromRight (prv c) ∗ fromLeft (nxt c) ∗ (((c : Thread nD τ).loc cc0_stg0_0) ↦{fullShare} xstg m ρ c) ∗ ownsTc c xS0 fullShare (xTop m ρ c) ∗ ownsTc c xS1 fullShare (xBot m ρ c)) -∗ Q ⟨c, v2, v5, v7, v9⟩) -∗ wpc c (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 ) Q) := by
  rw [k0_part1_eq_skeleton]; unfold k0_part1_skel
  simp only [Prog.lift, Prog.bind_op, Prog.bind_ret, Prog.pure_eq_ret, Prog.bind_assoc, wp_deviceId]
  iintro ⟨#HR, #HL, Hc, HO, Hat, Ht0, Ht1, Hl, Hr, Hx, HS0, HS1⟩ Hk
  iapply (wp_tell m ρ K c _ (prv c) (dev1_eq c) true (fromLeft c) (by show fromLeft (nxt (prv c)) = _; rw [nxt_prv]) (O₁ c) (O₀ c) rfl) $$ [HO Ht0 Hl]
  · isplitr; · iexact HR
    isplitl [HO]; · iexact HO
    isplitl [Ht0]; · iexact Ht0
    iexact Hl
  iintro HO
  iapply (wp_tell m ρ K c _ (nxt c) (dev2_eq c) false (fromRight c) (by show fromRight (prv (nxt c)) = _; rw [prv_nxt]) (O₂ c) (O₁ c) rfl) $$ [HO Ht1 Hr]
  · isplitr; · iexact HR
    isplitl [HO]; · iexact HO
    isplitl [Ht1]; · iexact Ht1
    iexact Hr
  iintro HO
  iapply (wp_hear m ρ K c (O₂ c) (above_O₂ c)) $$ [Hc HO Hat]
  · isplitr; · iexact HR
    isplitr; · iexact HL
    isplitl [Hc]; · iexact Hc
    isplitl [HO]; · iexact HO
    iexact Hat
  iintro ⟨HO, Hat, Hr, Hl⟩
  unfold ownsAny
  icases HS0 with ⟨%Y0, HS0⟩
  icases HS1 with ⟨%Y1, HS1⟩
  iapply (wp_load 𝒱₀ (c : Thread nD τ) none Set.univ (m := xM) (Finset.subset_univ _)) $$ Hx; iintro Hx
  iapply (load_slice c (Memref.whole cc0_scratch0) xR0 (fun _ => rfl) fullShare Y0) $$ HS0; iintro HS0
  iapply (store_slice c (Memref.whole cc0_scratch0) xR0 (fun _ => rfl) Y0) $$ HS0; iintro HS0
  iapply (wp_load 𝒱₀ (c : Thread nD τ) none Set.univ (m := xM) (Finset.subset_univ _)) $$ Hx; iintro Hx
  iapply (load_slice c (Memref.whole cc0_scratch0) xR1 (fun _ => rfl) fullShare Y1) $$ HS1; iintro HS1
  iapply (store_slice c (Memref.whole cc0_scratch0) xR1 (fun _ => rfl) Y1) $$ HS1; iintro HS1
  iapply (done c)
  iapply Hk
  isplitl [HO]; · iexact HO
  isplitl [Hat]; · iexact Hat
  isplitl [Hr]; · iexact Hr
  isplitl [Hl]; · iexact Hl
  isplitl [Hx]; · iexact Hx
  isplitl [HS0]; · iexact HS0
  iexact HS1

/-- The upper half out to the right, the lower half out to the left. -/
theorem part2 (K : Dev nD × Fin 13 → ℕ) (c : Dev nD) (v5 v7 : BitVec 32) {Q : _ → sProp 𝕄} :
    iprop(records m ρ K ∗ ownsTc c xS0 fullShare.right.left (xTop m ρ c) ∗ ownsTc c xS1 fullShare.right.left (xBot m ρ c) ∗ ownsAny (nxt c) lS0 ∗ ownsAny (prv c) rS1 ∗ owing c (O₂ c) ∗ dutyTok ER (cell c 1) 0 false ∗ dutyTok ER (cell (nxt c) 7) 0 false ∗ dutyTok ER (cell c 2) 0 false ∗ dutyTok ER (cell (prv c) 11) 0 false)
      ⊢ iprop(((owing c (O₄ c) ∗ cred (tallyAt (cell c 1) () N) ∗ cred (tallyAt (cell c 2) () N)) -∗ Q ⟨⟩) -∗ wpc c (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v7) Q) := by
  rw [k0_part2_eq_skeleton]; unfold k0_part2_skel
  simp only [Prog.lift, Prog.bind_op, Prog.bind_ret, Prog.pure_eq_ret, Prog.bind_assoc, wp_deviceId, send0, send1, left0, right1]
  iintro ⟨#HR, Ha, Hb, Hd, Hd', HO, Ht1, Ht7, Ht2, Ht11⟩ Hk
  iapply (wp_put m ρ K c _ (nxt c) (dev3_eq c) 1 7 rfl rfl xS0 lS0 fullShare.right.left (xTop m ρ c) rfl (carried_l0 m ρ c) rfl (O₃ c) (O₂ c) rfl) $$ [Ha Hd HO Ht1 Ht7]
  · isplitr; · iexact HR
    isplitl [Ha]; · iexact Ha
    isplitl [Hd]; · iexact Hd
    isplitl [HO]; · iexact HO
    isplitl [Ht1]; · iexact Ht1
    iexact Ht7
  iintro ⟨Hc1, HO⟩
  iapply (wp_put m ρ K c _ (prv c) (dev4_eq c) 2 11 rfl rfl xS1 rS1 fullShare.right.left (xBot m ρ c) rfl (carried_r1 m ρ c) rfl (O₄ c) (O₃ c) rfl) $$ [Hb Hd' HO Ht2 Ht11]
  · isplitr; · iexact HR
    isplitl [Hb]; · iexact Hb
    isplitl [Hd']; · iexact Hd'
    isplitl [HO]; · iexact HO
    isplitl [Ht2]; · iexact Ht2
    iexact Ht11
  iintro ⟨Hc2, HO⟩
  iapply (done c)
  iapply Hk
  isplitl [HO]; · iexact HO
  isplitl [Hc1]; · iexact Hc1
  iexact Hc2

/-- The lower half out to the right, the upper half out to the left; the own rows of the result. -/
theorem part3 (K : Dev nD × Fin 13 → ℕ) (c : Dev nD) (v2 v5 v7 : BitVec 32) (f : (cc0_stg2_0 : Ref sig .tc).ty.Contents (Elt F)) {Q : _ → sProp 𝕄} :
    iprop(records m ρ K ∗ ownsTc c xS1 fullShare.right.right (xBot m ρ c) ∗ ownsTc c xS0 fullShare.right.right (xTop m ρ c) ∗ ownsAny (nxt c) lS1 ∗ ownsAny (prv c) rS0 ∗ owing c (O₄ c) ∗ dutyTok ER (cell c 3) 0 false ∗ dutyTok ER (cell (nxt c) 8) 0 false ∗ dutyTok ER (cell c 4) 0 false ∗ dutyTok ER (cell (prv c) 10) 0 false ∗ (((c : Thread nD τ).loc cc0_stg1_0) ↦{fullShare} wstg m ρ c) ∗ ownsTc c xS0 fullShare.left (xTop m ρ c) ∗ ownsTc c xS1 fullShare.left (xBot m ρ c) ∗ (((c : Thread nD τ).loc cc0_stg2_0) ↦{fullShare} f))
      ⊢ iprop(((owing c (O₆ c) ∗ cred (tallyAt (cell c 3) () N) ∗ cred (tallyAt (cell c 4) () N) ∗ (((c : Thread nD τ).loc cc0_stg1_0) ↦{fullShare} wstg m ρ c) ∗ ownsTc c xS0 fullShare.left (xTop m ρ c) ∗ ownsTc c xS1 fullShare.left (xBot m ρ c) ∗ (((c : Thread nD τ).loc cc0_stg2_0) ↦{fullShare} upd (oR1 c) f (k0_pay4 (wVal m ρ c) (xTop m ρ c) (xBot m ρ c)))) -∗ Q (k0_pay3 (wVal m ρ c))) -∗ wpc c (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v5 v7) Q) := by
  rw [k0_part3_eq_skeleton]; unfold k0_part3_skel
  simp only [Prog.lift, Prog.bind_op, Prog.bind_ret, Prog.pure_eq_ret, Prog.bind_assoc, wp_deviceId, send2, send3, left1, right0]
  iintro ⟨#HR, Hb, Ha, Hd, Hd', HO, Ht3, Ht8, Ht4, Ht10, Hw, HS0, HS1, Ho⟩ Hk
  iapply (wp_put m ρ K c _ (nxt c) (dev5_eq c) 3 8 rfl rfl xS1 lS1 fullShare.right.right (xBot m ρ c) rfl (carried_l1 m ρ c) rfl (O₅ c) (O₄ c) rfl) $$ [Hb Hd HO Ht3 Ht8]
  · isplitr; · iexact HR
    isplitl [Hb]; · iexact Hb
    isplitl [Hd]; · iexact Hd
    isplitl [HO]; · iexact HO
    isplitl [Ht3]; · iexact Ht3
    iexact Ht8
  iintro ⟨Hc3, HO⟩
  iapply (wp_put m ρ K c _ (prv c) (dev6_eq c) 4 10 rfl rfl xS0 rS0 fullShare.right.right (xTop m ρ c) rfl (carried_r0 m ρ c) rfl (O₆ c) (O₅ c) rfl) $$ [Ha Hd' HO Ht4 Ht10]
  · isplitr; · iexact HR
    isplitl [Ha]; · iexact Ha
    isplitl [Hd']; · iexact Hd'
    isplitl [HO]; · iexact HO
    isplitl [Ht4]; · iexact Ht4
    iexact Ht10
  iintro ⟨Hc4, HO⟩
  iapply (wp_load 𝒱₀ (c : Thread nD τ) none Set.univ (m := wM) (Finset.subset_univ _)) $$ Hw; iintro Hw
  iapply (load_slice c (Memref.whole cc0_scratch0) xR0 (fun _ => rfl) fullShare.left (xTop m ρ c)) $$ HS0; iintro HS0
  iapply (load_slice c (Memref.whole cc0_scratch0) xR1 (fun _ => rfl) fullShare.left (xBot m ρ c)) $$ HS1; iintro HS1
  iapply (wp_rows c (oR1 c) f) $$ Ho; iintro Ho
  iapply (done c)
  iapply Hk
  isplitl [HO]; · iexact HO
  isplitl [Hc3]; · iexact Hc3
  isplitl [Hc4]; · iexact Hc4
  isplitl [Hw]; · iexact Hw
  isplitl [HS0]; · iexact HS0
  isplitl [HS1]; · iexact HS1
  iexact Ho

end Cert.Relay

end
-- ==== Proof.Parts2.lean ====
/-
# The body's second half: the arrivals, their forwarding, the other devices' rows of the result
-/
module

public import proofs.«01_k».proof.Proof.Parts

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The left neighbour's upper half arrives and is sent on; the right neighbour's lower half arrives. -/
theorem part4 (K : Dev nD × Fin 13 → ℕ) (c : Dev nD) (v5 v7 : BitVec 32) {Q : _ → sProp 𝕄} :
    iprop(records m ρ K ∗ levAts L lv ∗ cred (tallyAt (cell c 7) () N) ∗ owing c (O₆ c) ∗ fresh c 7 ∗ ownsAny (nxt c) lS2 ∗ dutyTok ER (cell c 5) 0 false ∗ dutyTok ER (cell (nxt c) 9) 0 false ∗ cred (tallyAt (cell c 11) () N) ∗ fresh c 11)
      ⊢ iprop(((owing c (O₇ c) ∗ spent c 7 ∗ spent c 11 ∗ ownsTc c lS0 fullShare.left (xTop m ρ (prv c)) ∗ cred (tallyAt (cell c 5) () N) ∗ ownsTc c rS1 fullShare (xBot m ρ (nxt c))) -∗ Q ⟨⟩) -∗ wpc c (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v7) Q) := by
  rw [k0_part4_eq_skeleton]; unfold k0_part4_skel
  simp only [Prog.lift, Prog.bind_op, Prog.bind_ret, Prog.pure_eq_ret, Prog.bind_assoc, wp_deviceId, left0, left2, right1, send4]
  iintro ⟨#HR, #HL, Hc7, HO, Hat7, Hd, Ht5, Ht9, Hc11, Hat11⟩ Hk
  iapply (wp_take m ρ K c 7 (src := sq xS0) (dst := sq lS0) rfl (O₆ c) 2 (by decide) (above_O₆ c) rfl) $$ [Hc7 HO Hat7]
  · isplitr; · iexact HR
    isplitr; · iexact HL
    isplitl [Hc7]; · iexact Hc7
    isplitl [HO]; · iexact HO
    iexact Hat7
  iintro ⟨HO, Hat7, Hl0⟩
  ihave Hl0' := (show carried m ρ c (9 : DmaSem sig).val ⊢ iprop(ownsTc c lS0 fullShare.left (xTop m ρ (prv c)) ∗ ownsTc c lS0 fullShare.right (xTop m ρ (prv c))) from owns_split c lS0 fullShare _) $$ Hl0
  icases Hl0' with ⟨HlL, HlR⟩
  iapply (wp_put m ρ K c _ (nxt c) (dev7_eq c) 5 9 rfl rfl lS0 lS2 fullShare.right (xTop m ρ (prv c)) rfl (carried_l2 m ρ c) rfl (O₇ c) (O₆ c) rfl) $$ [HlR Hd HO Ht5 Ht9]
  · isplitr; · iexact HR
    isplitl [HlR]; · iexact HlR
    isplitl [Hd]; · iexact Hd
    isplitl [HO]; · iexact HO
    isplitl [Ht5]; · iexact Ht5
    iexact Ht9
  iintro ⟨Hc5, HO⟩
  iapply (wp_take m ρ K c 11 (src := sq xS1) (dst := sq rS1) rfl (O₇ c) 2 (by decide) (above_O₇ c) rfl) $$ [Hc11 HO Hat11]
  · isplitr; · iexact HR
    isplitr; · iexact HL
    isplitl [Hc11]; · iexact Hc11
    isplitl [HO]; · iexact HO
    iexact Hat11
  iintro ⟨HO, Hat11, Hr1⟩
  ihave Hr1 := (show carried m ρ c (13 : DmaSem sig).val ⊢ ownsTc c rS1 fullShare (xBot m ρ (nxt c)) from .rfl) $$ Hr1
  iapply (done c)
  iapply Hk
  isplitl [HO]; · iexact HO
  isplitl [Hat7]; · iexact Hat7
  isplitl [Hat11]; · iexact Hat11
  isplitl [HlL]; · iexact HlL
  isplitl [Hc5]; · iexact Hc5
  iexact Hr1

/-- The right neighbour's lower half is sent on; the rows of both halves that arrived. -/
theorem part5 (K : Dev nD × Fin 13 → ℕ) (c : Dev nD) (v5 v7 : BitVec 32) (w : FVec F S1024x256 .bf16) (f : (cc0_stg2_0 : Ref sig .tc).ty.Contents (Elt F)) {Q : _ → sProp 𝕄} :
    iprop(records m ρ K ∗ ownsTc c rS1 fullShare (xBot m ρ (nxt c)) ∗ ownsAny (prv c) rS2 ∗ owing c (O₇ c) ∗ dutyTok ER (cell c 6) 0 false ∗ dutyTok ER (cell (prv c) 12) 0 false ∗ ownsTc c lS0 fullShare.left (xTop m ρ (prv c)) ∗ (((c : Thread nD τ).loc cc0_stg2_0) ↦{fullShare} f))
      ⊢ iprop(((owing c 0 ∗ cred (tallyAt (cell c 6) () N) ∗ ownsTc c rS1 fullShare.left (xBot m ρ (nxt c)) ∗ ownsTc c lS0 fullShare.left (xTop m ρ (prv c)) ∗ (((c : Thread nD τ).loc cc0_stg2_0) ↦{fullShare} upd (oR3 c) (upd (oR2 c) f (k0_pay5 w (xTop m ρ (prv c)))) (k0_pay6 w (xBot m ρ (nxt c))))) -∗ Q ⟨⟩) -∗ wpc c (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v7 w) Q) := by
  rw [k0_part5_eq_skeleton]; unfold k0_part5_skel
  simp only [Prog.lift, Prog.bind_op, Prog.bind_ret, Prog.pure_eq_ret, Prog.bind_assoc, wp_deviceId, send5, right2]
  iintro ⟨#HR, Hr1, Hd, HO, Ht6, Ht12, HlL, Ho⟩ Hk
  ihave Hr1' := (owns_split c rS1 fullShare (xBot m ρ (nxt c))) $$ Hr1
  icases Hr1' with ⟨HrL, HrR⟩
  iapply (wp_put m ρ K c _ (prv c) (dev8_eq c) 6 12 rfl rfl rS1 rS2 fullShare.right (xBot m ρ (nxt c)) rfl (carried_r2 m ρ c) rfl 0 (O₇ c) (zero_add _).symm) $$ [HrR Hd HO Ht6 Ht12]
  · isplitr; · iexact HR
    isplitl [HrR]; · iexact HrR
    isplitl [Hd]; · iexact Hd
    isplitl [HO]; · iexact HO
    isplitl [Ht6]; · iexact Ht6
    iexact Ht12
  iintro ⟨Hc6, HO⟩
  iapply (load_slice c (Memref.whole cc0_scratch1) bR0 (fun _ => rfl) fullShare.left (xTop m ρ (prv c))) $$ HlL; iintro HlL
  iapply (wp_rows c (oR2 c) f) $$ Ho; iintro Ho
  iapply (load_slice c (Memref.whole cc0_scratch2) bR1 (fun _ => rfl) fullShare.left (xBot m ρ (nxt c))) $$ HrL; iintro HrL
  iapply (wp_rows c (oR3 c) _) $$ Ho; iintro Ho
  iapply (done c)
  iapply Hk
  isplitl [HO]; · iexact HO
  isplitl [Hc6]; · iexact Hc6
  isplitl [HrL]; · iexact HrL
  isplitl [HlL]; · iexact HlL
  iexact Ho

/-- The neighbours' other halves arrive, and their rows. -/
theorem part6 (K : Dev nD × Fin 13 → ℕ) (c : Dev nD) (v5 v7 : BitVec 32) (w : FVec F S1024x256 .bf16) (f : (cc0_stg2_0 : Ref sig .tc).ty.Contents (Elt F)) {Q : _ → sProp 𝕄} :
    iprop(records m ρ K ∗ levAts L lv ∗ cred (tallyAt (cell c 8) () N) ∗ cred (tallyAt (cell c 10) () N) ∗ fresh c 8 ∗ fresh c 10 ∗ owing c 0 ∗ (((c : Thread nD τ).loc cc0_stg2_0) ↦{fullShare} f))
      ⊢ iprop((∀ v, (owing c 0 ∗ spent c 8 ∗ spent c 10 ∗ ownsTc c ((Memref.whole cc0_scratch1).slice bR1 (fun _ => rfl)) fullShare (xBot m ρ (prv c)) ∗ ownsTc c ((Memref.whole cc0_scratch2).slice bR0 (fun _ => rfl)) fullShare (xTop m ρ (nxt c)) ∗ (((c : Thread nD τ).loc cc0_stg2_0) ↦{fullShare} upd (oR5 c) (upd (oR4 c) f (k0_pay7 w (xBot m ρ (prv c)))) (k0_pay8 w (xTop m ρ (nxt c))))) -∗ Q v) -∗ wpc c (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v7 w) Q) := by
  rw [k0_part6_eq_skeleton]; unfold k0_part6_skel
  simp only [Prog.lift, Prog.bind_op, Prog.bind_ret, Prog.pure_eq_ret, Prog.bind_assoc, wp_deviceId, left1, right0]
  iintro ⟨#HR, #HL, Hc1, Hc2, Hat1, Hat2, HO, Ho⟩ Hk
  iapply (wp_take m ρ K c 8 (src := sq xS1) (dst := sq lS1) rfl 0 3 (by decide) (above_zero 3) rfl) $$ [Hc1 HO Hat1]
  · isplitr; · iexact HR
    isplitr; · iexact HL
    isplitl [Hc1]; · iexact Hc1
    isplitl [HO]; · iexact HO
    iexact Hat1
  iintro ⟨HO, Hat1, H1⟩
  ihave H1 := (show carried m ρ c (10 : DmaSem sig).val ⊢ ownsTc c ((Memref.whole cc0_scratch1).slice bR1 (fun _ => rfl)) fullShare (xBot m ρ (prv c)) from .rfl) $$ H1
  iapply (load_slice c (Memref.whole cc0_scratch1) bR1 (fun _ => rfl) fullShare (xBot m ρ (prv c))) $$ H1; iintro H1
  iapply (wp_rows c (oR4 c) f) $$ Ho; iintro Ho
  iapply (wp_take m ρ K c 10 (src := sq xS0) (dst := sq rS0) rfl 0 3 (by decide) (above_zero 3) rfl) $$ [Hc2 HO Hat2]
  · isplitr; · iexact HR
    isplitr; · iexact HL
    isplitl [Hc2]; · iexact Hc2
    isplitl [HO]; · iexact HO
    iexact Hat2
  iintro ⟨HO, Hat2, H2⟩
  ihave H2 := (show carried m ρ c (12 : DmaSem sig).val ⊢ ownsTc c ((Memref.whole cc0_scratch2).slice bR0 (fun _ => rfl)) fullShare (xTop m ρ (nxt c)) from .rfl) $$ H2
  iapply (load_slice c (Memref.whole cc0_scratch2) bR0 (fun _ => rfl) fullShare (xTop m ρ (nxt c))) $$ H2; iintro H2
  iapply (wp_rows c (oR5 c) _) $$ Ho; iintro Ho
  iapply (done c)
  iapply Hk
  isplitl [HO]; · iexact HO
  isplitl [Hat1]; · iexact Hat1
  isplitl [Hat2]; · iexact Hat2
  isplitl [H1]; · iexact H1
  isplitl [H2]; · iexact H2
  iexact Ho

/-- The two forwarded halves arrive, and the rows of the one. -/
theorem part7 (K : Dev nD × Fin 13 → ℕ) (c : Dev nD) (v5 v9 : BitVec 32) (w : FVec F S1024x256 .bf16) (v164 : BitVec 32) (f : (cc0_stg2_0 : Ref sig .tc).ty.Contents (Elt F)) {Q : _ → sProp 𝕄} :
    iprop(records m ρ K ∗ levAts L lv ∗ cred (tallyAt (cell c 9) () N) ∗ cred (tallyAt (cell c 12) () N) ∗ fresh c 9 ∗ fresh c 12 ∗ owing c 0 ∗ (((c : Thread nD τ).loc cc0_stg2_0) ↦{fullShare} f))
      ⊢ iprop((∀ v, (owing c 0 ∗ spent c 9 ∗ spent c 12 ∗ ownsTc c ((Memref.whole cc0_scratch1).slice bR2 (fun _ => rfl)) fullShare (xTop m ρ (prv (prv c))) ∗ ownsTc c ((Memref.whole cc0_scratch2).slice bR2 (fun _ => rfl)) fullShare (xBot m ρ (nxt (nxt c))) ∗ (((c : Thread nD τ).loc cc0_stg2_0) ↦{fullShare} upd (oR6 c) f (k0_pay9 w (xTop m ρ (prv (prv c)))))) -∗ Q ⟨v, k0_pay10 w (xBot m ρ (nxt (nxt c))), Scalar.ofBits .f32 0x00000000#32⟩) -∗ wpc c (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v5 v9 w v164) Q) := by
  rw [k0_part7_eq_skeleton]; unfold k0_part7_skel
  simp only [Prog.lift, Prog.bind_op, Prog.bind_ret, Prog.pure_eq_ret, Prog.bind_assoc, wp_deviceId, left2, right2]
  iintro ⟨#HR, #HL, Hc1, Hc2, Hat1, Hat2, HO, Ho⟩ Hk
  iapply (wp_take m ρ K c 9 (src := sq lS0) (dst := sq lS2) rfl 0 3 (by decide) (above_zero 3) rfl) $$ [Hc1 HO Hat1]
  · isplitr; · iexact HR
    isplitr; · iexact HL
    isplitl [Hc1]; · iexact Hc1
    isplitl [HO]; · iexact HO
    iexact Hat1
  iintro ⟨HO, Hat1, H1⟩
  ihave H1 := (show carried m ρ c (11 : DmaSem sig).val ⊢ ownsTc c ((Memref.whole cc0_scratch1).slice bR2 (fun _ => rfl)) fullShare (xTop m ρ (prv (prv c))) from .rfl) $$ H1
  iapply (load_slice c (Memref.whole cc0_scratch1) bR2 (fun _ => rfl) fullShare (xTop m ρ (prv (prv c)))) $$ H1; iintro H1
  iapply (wp_rows c (oR6 c) f) $$ Ho; iintro Ho
  iapply (wp_take m ρ K c 12 (src := sq rS1) (dst := sq rS2) rfl 0 3 (by decide) (above_zero 3) rfl) $$ [Hc2 HO Hat2]
  · isplitr; · iexact HR
    isplitr; · iexact HL
    isplitl [Hc2]; · iexact Hc2
    isplitl [HO]; · iexact HO
    iexact Hat2
  iintro ⟨HO, Hat2, H2⟩
  ihave H2 := (show carried m ρ c (14 : DmaSem sig).val ⊢ ownsTc c ((Memref.whole cc0_scratch2).slice bR2 (fun _ => rfl)) fullShare (xBot m ρ (nxt (nxt c))) from .rfl) $$ H2
  iapply (load_slice c (Memref.whole cc0_scratch2) bR2 (fun _ => rfl) fullShare (xBot m ρ (nxt (nxt c)))) $$ H2; iintro H2
  iapply (done c)
  iapply Hk
  isplitl [HO]; · iexact HO
  isplitl [Hat1]; · iexact Hat1
  isplitl [Hat2]; · iexact Hat2
  isplitl [H1]; · iexact H1
  isplitl [H2]; · iexact H2
  iexact Ho

/-- The last rows; the first three transfers have left. -/
theorem part8 (K : Dev nD × Fin 13 → ℕ) (c : Dev nD) (v191 : BitVec 32) (v192 : FVec F S128x256 .f32) (z : F .f32) (f : (cc0_stg2_0 : Ref sig .tc).ty.Contents (Elt F)) {Q : _ → sProp 𝕄} :
    iprop(records m ρ K ∗ levAts L lv ∗ owing c 0 ∗ (((c : Thread nD τ).loc cc0_stg2_0) ↦{fullShare} f) ∗ cred (tallyAt (cell c 1) () N) ∗ fresh c 1 ∗ cred (tallyAt (cell c 2) () N) ∗ fresh c 2 ∗ cred (tallyAt (cell c 3) () N) ∗ fresh c 3)
      ⊢ iprop(((owing c 0 ∗ (((c : Thread nD τ).loc cc0_stg2_0) ↦{fullShare} upd (oR7 c) f (k0_pay11 v192 z)) ∗ spent c 1 ∗ spent c 2 ∗ spent c 3 ∗ ownsTc c xS0 fullShare.right.left (xTop m ρ c) ∗ ownsTc c xS1 fullShare.right.left (xBot m ρ c) ∗ ownsTc c xS1 fullShare.right.right (xBot m ρ c)) -∗ Q ⟨⟩) -∗ wpc c (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v191 v192 z) Q) := by
  rw [k0_part8_eq_skeleton]; unfold k0_part8_skel
  simp only [Prog.lift, Prog.bind_op, Prog.bind_ret, Prog.pure_eq_ret, Prog.bind_assoc, wp_deviceId, send0, send1, send2]
  iintro ⟨#HR, #HL, HO, Ho, Hc1, Hat1, Hc2, Hat2, Hc3, Hat3⟩ Hk
  iapply (wp_rows c (oR7 c) f) $$ Ho; iintro Ho
  iapply (wp_take m ρ K c 1 (src := sq lS0) (dst := sq xS0) rfl 0 3 (by decide) (above_zero 3) rfl) $$ [Hc1 HO Hat1]
  · isplitr; · iexact HR
    isplitr; · iexact HL
    isplitl [Hc1]; · iexact Hc1
    isplitl [HO]; · iexact HO
    iexact Hat1
  iintro ⟨HO, Hat1, H1⟩
  ihave H1 := (show carried m ρ c (3 : DmaSem sig).val ⊢ ownsTc c xS0 fullShare.right.left (xTop m ρ c) from .rfl) $$ H1
  iapply (wp_take m ρ K c 2 (src := sq rS1) (dst := sq xS1) rfl 0 3 (by decide) (above_zero 3) rfl) $$ [Hc2 HO Hat2]
  · isplitr; · iexact HR
    isplitr; · iexact HL
    isplitl [Hc2]; · iexact Hc2
    isplitl [HO]; · iexact HO
    iexact Hat2
  iintro ⟨HO, Hat2, H2⟩
  ihave H2 := (show carried m ρ c (4 : DmaSem sig).val ⊢ ownsTc c xS1 fullShare.right.left (xBot m ρ c) from .rfl) $$ H2
  iapply (wp_take m ρ K c 3 (src := sq lS1) (dst := sq xS1) rfl 0 3 (by decide) (above_zero 3) rfl) $$ [Hc3 HO Hat3]
  · isplitr; · iexact HR
    isplitr; · iexact HL
    isplitl [Hc3]; · iexact Hc3
    isplitl [HO]; · iexact HO
    iexact Hat3
  iintro ⟨HO, Hat3, H3⟩
  ihave H3 := (show carried m ρ c (5 : DmaSem sig).val ⊢ ownsTc c xS1 fullShare.right.right (xBot m ρ c) from .rfl) $$ H3
  iapply (done c)
  iapply Hk
  isplitl [HO]; · iexact HO
  isplitl [Ho]; · iexact Ho
  isplitl [Hat1]; · iexact Hat1
  isplitl [Hat2]; · iexact Hat2
  isplitl [Hat3]; · iexact Hat3
  isplitl [H1]; · iexact H1
  isplitl [H2]; · iexact H2
  iexact H3

end Cert.Relay

end
-- ==== Proof.Stores.lean ====
/-
# The result's buffer after the seven stores
-/
module

public import proofs.«01_k».proof.Proof.Parts

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev Res (F : FTy → Type) : Type := (cc0_stg2_0 : Ref sig .tc).ty.Contents (Elt F)

theorem upd_at (r : Rect S1024x256) (f : Res F) (v : r.shape.Idx → Elt F .f32) (j : r.shape.Idx) : upd r f v (r.emb j) = v j :=
  View.write_emb_of_mem (v := oM.access r) f v (Finset.mem_univ j)

theorem upd_off (r : Rect S1024x256) (f : Res F) (v : r.shape.Idx → Elt F .f32) {i : S1024x256.Idx} (h : i ∉ r.set) : upd r f v i = f i :=
  View.write_of_not_mem (v := oM.access r) f v Finset.univ (fun h' => h (by
    obtain ⟨x, -, hx⟩ := Finset.mem_map.mp h'
    rw [← hx]; exact r.idx_mem x))

/-- A buffer written over rows agrees with `G` where the new rows do and, outside them, where the old contents do. -/
theorem upd_eq (r : Rect S1024x256) (f : Res F) (v : r.shape.Idx → Elt F .f32) (G : Res F) (i : S1024x256.Idx)
    (hin : ∀ j, v j = G (r.emb j)) (hout : i ∉ r.set → f i = G i) : upd r f v i = G i := by
  by_cases h : i ∈ r.set
  · obtain ⟨j, rfl⟩ : ∃ j, r.emb j = i := by
      obtain ⟨j, hj⟩ := r.exists_idx_of_mem h
      exact ⟨j, hj⟩
    rw [upd_at]; exact hin j
  · rw [upd_off r f v h]; exact hout h

/-- Rows written over two contents agree where the contents do, outside the rows. -/
theorem upd_same (r : Rect S1024x256) (f f' : Res F) (v : r.shape.Idx → Elt F .f32) (i : S1024x256.Idx) (h : i ∉ r.set → f i = f' i) :
    upd r f v i = upd r f' v i :=
  upd_eq r f v (upd r f' v) i (fun j => (upd_at r f' v j).symm) fun n => by rw [upd_off r f' v n]; exact h n

/-- The elements of a window of whole rows are those of its rows. -/
theorem mem_rows (off : Fin 2 → ℕ) (h n : ℕ) (inb) (hoff : off = ![n, 0]) (i : S1024x256.Idx) :
    i ∈ (Rect.unit (s := S1024x256) off ![h, 256] inb).set ↔ n ≤ (i 0).val ∧ (i 0).val < n + h := by
  subst hoff
  rw [Rect.mem_set_unit, Fin.forall_fin_succ, Fin.forall_fin_succ]
  have h1 : (i 1).val < 256 := (i 1).isLt
  show (n ≤ (i 0).val ∧ (i 0).val < n + h) ∧ (0 ≤ (i 1).val ∧ (i 1).val < 0 + 256) ∧ _ ↔ _
  exact ⟨fun h => h.1, fun h => ⟨h, ⟨by omega, by omega⟩, fun a => a.elim0⟩⟩

theorem mem_oR1 (c : Dev nD) (i : S1024x256.Idx) : i ∈ (oR1 c).set ↔ 256 * c.val ≤ (i 0).val ∧ (i 0).val < 256 * c.val + 256 :=
  mem_rows _ 256 _ _ (k0_off1_eq c) i
theorem mem_oR2 (c : Dev nD) (i : S1024x256.Idx) : i ∈ (oR2 c).set ↔ 256 * ((c.val + 3) % 4) ≤ (i 0).val ∧ (i 0).val < 256 * ((c.val + 3) % 4) + 128 :=
  mem_rows _ 128 _ _ (k0_off2_eq c) i
theorem mem_oR3 (c : Dev nD) (i : S1024x256.Idx) : i ∈ (oR3 c).set ↔ 256 * ((c.val + 1) % 4) + 128 ≤ (i 0).val ∧ (i 0).val < 256 * ((c.val + 1) % 4) + 128 + 128 :=
  mem_rows _ 128 _ _ (k0_off3_eq c 0) i
theorem mem_oR4 (c : Dev nD) (i : S1024x256.Idx) : i ∈ (oR4 c).set ↔ 256 * ((c.val + 3) % 4) + 128 ≤ (i 0).val ∧ (i 0).val < 256 * ((c.val + 3) % 4) + 128 + 128 :=
  mem_rows _ 128 _ _ (k0_off4_eq c) i
theorem mem_oR5 (c : Dev nD) (i : S1024x256.Idx) : i ∈ (oR5 c).set ↔ 256 * ((c.val + 1) % 4) ≤ (i 0).val ∧ (i 0).val < 256 * ((c.val + 1) % 4) + 128 :=
  mem_rows _ 128 _ _ (k0_off5_eq c 0) i
theorem mem_oR6 (c : Dev nD) (i : S1024x256.Idx) : i ∈ (oR6 c).set ↔ 256 * ((c.val + 2) % 4) ≤ (i 0).val ∧ (i 0).val < 256 * ((c.val + 2) % 4) + 128 :=
  mem_rows _ 128 _ _ (k0_off5_eq c 1) i
theorem mem_oR7 (c : Dev nD) (i : S1024x256.Idx) : i ∈ (oR7 c).set ↔ 256 * ((c.val + 2) % 4) + 128 ≤ (i 0).val ∧ (i 0).val < 256 * ((c.val + 2) % 4) + 128 + 128 :=
  mem_rows _ 128 _ _ (k0_off3_eq c 1) i

/-- The seven stores in the kernel's order. -/
def stores (c : Dev nD) (f : Res F) (v1 : (oR1 c).shape.Idx → Elt F .f32) (v2 : (oR2 c).shape.Idx → Elt F .f32) (v3 : (oR3 c).shape.Idx → Elt F .f32) (v4 : (oR4 c).shape.Idx → Elt F .f32) (v5 : (oR5 c).shape.Idx → Elt F .f32) (v6 : (oR6 c).shape.Idx → Elt F .f32) (v7 : (oR7 c).shape.Idx → Elt F .f32) : Res F :=
  upd (oR7 c) (upd (oR6 c) (upd (oR5 c) (upd (oR4 c) (upd (oR3 c) (upd (oR2 c) (upd (oR1 c) (f) v1) v2) v3) v4) v5) v6) v7

/-- The seven stores write every row: what was there before does not matter, and each element is what the one store over
    its row wrote. -/
theorem stores_eq (c : Dev nD) (f : Res F) (v1 : (oR1 c).shape.Idx → Elt F .f32) (v2 : (oR2 c).shape.Idx → Elt F .f32) (v3 : (oR3 c).shape.Idx → Elt F .f32) (v4 : (oR4 c).shape.Idx → Elt F .f32) (v5 : (oR5 c).shape.Idx → Elt F .f32) (v6 : (oR6 c).shape.Idx → Elt F .f32) (v7 : (oR7 c).shape.Idx → Elt F .f32) (G : Res F)
    (h1 : ∀ j, v1 j = G ((oR1 c).emb j)) (h2 : ∀ j, v2 j = G ((oR2 c).emb j)) (h3 : ∀ j, v3 j = G ((oR3 c).emb j)) (h4 : ∀ j, v4 j = G ((oR4 c).emb j)) (h5 : ∀ j, v5 j = G ((oR5 c).emb j)) (h6 : ∀ j, v6 j = G ((oR6 c).emb j)) (h7 : ∀ j, v7 j = G ((oR7 c).emb j)) :
    stores c f v1 v2 v3 v4 v5 v6 v7 = G := by
  funext i
  unfold stores
  refine upd_eq _ _ _ G i h7 fun n7 => ?_
  refine upd_eq _ _ _ G i h6 fun n6 => ?_
  refine upd_eq _ _ _ G i h5 fun n5 => ?_
  refine upd_eq _ _ _ G i h4 fun n4 => ?_
  refine upd_eq _ _ _ G i h3 fun n3 => ?_
  refine upd_eq _ _ _ G i h2 fun n2 => ?_
  refine upd_eq _ _ _ G i h1 fun n1 => ?_
  exfalso
  rw [mem_oR1] at n1
  rw [mem_oR2] at n2
  rw [mem_oR3] at n3
  rw [mem_oR4] at n4
  rw [mem_oR5] at n5
  rw [mem_oR6] at n6
  rw [mem_oR7] at n7
  have hc : c.val < 4 := c.isLt
  have hi : (i 0).val < 1024 := (i 0).isLt
  omega

/-- What the seven stores leave does not depend on what was there before. -/
theorem stores_same (c : Dev nD) (f f' : Res F) (v1 : (oR1 c).shape.Idx → Elt F .f32) (v2 : (oR2 c).shape.Idx → Elt F .f32) (v3 : (oR3 c).shape.Idx → Elt F .f32) (v4 : (oR4 c).shape.Idx → Elt F .f32) (v5 : (oR5 c).shape.Idx → Elt F .f32) (v6 : (oR6 c).shape.Idx → Elt F .f32) (v7 : (oR7 c).shape.Idx → Elt F .f32) :
    stores c f v1 v2 v3 v4 v5 v6 v7 = stores c f' v1 v2 v3 v4 v5 v6 v7 := by
  funext i
  unfold stores
  refine upd_same _ _ _ _ i fun n7 => ?_
  refine upd_same _ _ _ _ i fun n6 => ?_
  refine upd_same _ _ _ _ i fun n5 => ?_
  refine upd_same _ _ _ _ i fun n4 => ?_
  refine upd_same _ _ _ _ i fun n3 => ?_
  refine upd_same _ _ _ _ i fun n2 => ?_
  refine upd_same _ _ _ _ i fun n1 => ?_
  exfalso
  rw [mem_oR1] at n1
  rw [mem_oR2] at n2
  rw [mem_oR3] at n3
  rw [mem_oR4] at n4
  rw [mem_oR5] at n5
  rw [mem_oR6] at n6
  rw [mem_oR7] at n7
  have hc : c.val < 4 := c.isLt
  have hi : (i 0).val < 1024 := (i 0).isLt
  omega

end Cert.Relay

end
-- ==== Proof.Body.lean ====
/-
# The body from its start to its end, and the pipeline's data
-/
module

public import proofs.«01_k».proof.Proof.Parts2
public import proofs.«01_k».proof.Proof.Stores

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's resources at a device -/

/-- The tokens of the duties device `c` pays: the barrier's units both ways, the landings of what it sends, its own sends. -/
def payToks (c : Dev nD) : sProp 𝕄 :=
  iprop(dutyTok ER (cell (prv c) 0) 0 true ∗ dutyTok ER (cell (nxt c) 0) 0 false ∗ dutyTok ER (cell (nxt c) 7) 0 false ∗ dutyTok ER (cell (prv c) 11) 0 false ∗ dutyTok ER (cell (nxt c) 8) 0 false ∗ dutyTok ER (cell (prv c) 10) 0 false ∗ dutyTok ER (cell (nxt c) 9) 0 false ∗ dutyTok ER (cell (prv c) 12) 0 false ∗ dutyTok ER (cell c 1) 0 false ∗ dutyTok ER (cell c 2) 0 false ∗ dutyTok ER (cell c 3) 0 false ∗ dutyTok ER (cell c 4) 0 false ∗ dutyTok ER (cell c 5) 0 false ∗ dutyTok ER (cell c 6) 0 false)

/-- Device `c`'s own positions, and the tokens it pays with. -/
def linear (c : Dev nD) : sProp 𝕄 := iprop((bigSep Finset.univ fun k : Fin 13 => fresh (F := F) c k) ∗ payToks c)

/-- What device `c` starts the body with, besides its buffers. -/
def start (c : Dev nD) : sProp 𝕄 :=
  iprop((∃ K, records m ρ K ∗ linear c) ∗ (cred (tallyAt (cell c 0) () 2) ∗ cred (tallyAt (cell c 7) () N) ∗ cred (tallyAt (cell c 8) () N) ∗ cred (tallyAt (cell c 9) () N) ∗ cred (tallyAt (cell c 10) () N) ∗ cred (tallyAt (cell c 11) () N) ∗ cred (tallyAt (cell c 12) () N)) ∗ levAts L lv)

/-- The scratch buffers at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratches c)
def Φ₁ (c : Dev nD) : sProp 𝕄 := iprop(scratches c ∗ bigSep Finset.univ fun k : Fin 13 => semVal (cell c k) 0)

/-! ## The pipeline's data -/

/-- The result's buffer after the body: the seven blocks of rows, each the product of the rows of `x` that the block is for
    with this device's columns, cut off at zero from below. -/
def outAt (c : Dev nD) : Res F :=
  stores c (fun _ => Scalar.ofBits .f32 0x00000000#32) (k0_pay4 (wVal m ρ c) (xTop m ρ c) (xBot m ρ c))
    (k0_pay5 (k0_pay3 (wVal m ρ c)) (xTop m ρ (prv c))) (k0_pay6 (k0_pay3 (wVal m ρ c)) (xBot m ρ (nxt c)))
    (k0_pay7 (k0_pay3 (wVal m ρ c)) (xBot m ρ (prv c))) (k0_pay8 (k0_pay3 (wVal m ρ c)) (xTop m ρ (nxt c)))
    (k0_pay9 (k0_pay3 (wVal m ρ c)) (xTop m ρ (prv (prv c))))
    (k0_pay11 (k0_pay10 (k0_pay3 (wVal m ρ c)) (xBot m ρ (nxt (nxt c)))) (Scalar.ofBits .f32 0x00000000#32))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev t₀ : Fin cfg0.N := ⟨0, by decide⟩
theorem fin_N (t : Fin cfg0.N) : t = t₀ := fin_N0 t

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_cells (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- The positions all past their round, the counters all at zero. -/
theorem close_all (K : Dev nD × Fin 13 → ℕ) (c : Dev nD) :
    iprop(records m ρ K ∗ bigSep Finset.univ fun k : Fin 13 => spent (F := F) c k)
      ⊢ |={Set.univ}=> (bigSep Finset.univ fun k : Fin 13 => semVal (cell c k) 0 : sProp 𝕄) :=
  BIBase.Entails.trans (sep_mono_left (BI.bigSep_of_persistent (Finset.univ : Finset (Fin 13)) (records m ρ K))) (by
    rw [← bigSep_sep']
    exact (bigSep_mono fun k _ => close_cell m ρ K c k).trans (bigSep_fupd _ _))

theorem and_then (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  show _ ⊢ wp _ _ _ _ _
  rw [wp_bind]

theorem at_end (c : Dev nD) {α : Type} {p : Prog (TpuEff nD τ sig (Elt F) Λ₀ .tc) α} {Q : α → sProp 𝕄} :
    wpc c p (fun a => iprop(|={Set.univ}=> Q a)) ⊢ wpc c p Q := wp_fupd _ _ _ p Q

/-! ## The body -/

/-- The body's last three waits, after its parts. -/
def ending : Prog (TpuEff nD τ sig (Elt F) Λ₀ .tc) PUnit := do
  let v215 : DmaSems sig S1 := cc0_scratch3.slice (Rect.unit (s := S6) ![3] S1.size inb_S6_S1_3)
  let v216 : DmaSems sig S_ := v215.squeeze S_ squeezes_S1_S_
  let v217 : Memref sig .tc .vmem S1x128x1024 .bf16 := (Memref.whole cc0_scratch0).slice (Rect.unit (s := S2x128x1024) ![0, 0, 0] S1x128x1024.size inb_S2x128x1024_S1x128x1024_0_0_0) (fun _ => rfl)
  let v218 : Memref sig .tc .vmem S128x1024 .bf16 := v217.squeeze S128x1024 squeezes_S1x128x1024_S128x1024
  let v219 : Memref sig .tc .vmem S1x128x1024 .bf16 := (Memref.whole cc0_scratch2).slice (Rect.unit (s := S3x128x1024) ![0, 0, 0] S1x128x1024.size inb_S3x128x1024_S1x128x1024_0_0_0) (fun _ => rfl)
  let v220 : Memref sig .tc .vmem S128x1024 .bf16 := v219.squeeze S128x1024 squeezes_S1x128x1024_S128x1024
  Prog.lift (.waitDma2 v216.sem v220 v218 (((Memref.isWhole_whole cc0_scratch2).wordExact_slice rfl _ wordsbf16_S3x128x1024_S1x128x1024_0_0_0).reshape _ _) (((Memref.isWhole_whole cc0_scratch0).wordExact_slice rfl _ wordsbf16_S2x128x1024_S1x128x1024_0_0_0).reshape _ _))
  let v221 : DmaSems sig S1 := cc0_scratch3.slice (Rect.unit (s := S6) ![4] S1.size inb_S6_S1_4)
  let v222 : DmaSems sig S_ := v221.squeeze S_ squeezes_S1_S_
  let v223 : Memref sig .tc .vmem S1x128x1024 .bf16 := (Memref.whole cc0_scratch1).slice (Rect.unit (s := S3x128x1024) ![0, 0, 0] S1x128x1024.size inb_S3x128x1024_S1x128x1024_0_0_0) (fun _ => rfl)
  let v224 : Memref sig .tc .vmem S128x1024 .bf16 := v223.squeeze S128x1024 squeezes_S1x128x1024_S128x1024
  let v225 : Memref sig .tc .vmem S1x128x1024 .bf16 := (Memref.whole cc0_scratch1).slice (Rect.unit (s := S3x128x1024) ![2, 0, 0] S1x128x1024.size inb_S3x128x1024_S1x128x1024_2_0_0) (fun _ => rfl)
  let v226 : Memref sig .tc .vmem S128x1024 .bf16 := v225.squeeze S128x1024 squeezes_S1x128x1024_S128x1024
  Prog.lift (.waitDma2 v222.sem v226 v224 (((Memref.isWhole_whole cc0_scratch1).wordExact_slice rfl _ wordsbf16_S3x128x1024_S1x128x1024_2_0_0).reshape _ _) (((Memref.isWhole_whole cc0_scratch1).wordExact_slice rfl _ wordsbf16_S3x128x1024_S1x128x1024_0_0_0).reshape _ _))
  let v227 : DmaSems sig S1 := cc0_scratch3.slice (Rect.unit (s := S6) ![5] S1.size inb_S6_S1_5)
  let v228 : DmaSems sig S_ := v227.squeeze S_ squeezes_S1_S_
  let v229 : Memref sig .tc .vmem S1x128x1024 .bf16 := (Memref.whole cc0_scratch2).slice (Rect.unit (s := S3x128x1024) ![1, 0, 0] S1x128x1024.size inb_S3x128x1024_S1x128x1024_1_0_0) (fun _ => rfl)
  let v230 : Memref sig .tc .vmem S128x1024 .bf16 := v229.squeeze S128x1024 squeezes_S1x128x1024_S128x1024
  let v231 : Memref sig .tc .vmem S1x128x1024 .bf16 := (Memref.whole cc0_scratch2).slice (Rect.unit (s := S3x128x1024) ![2, 0, 0] S1x128x1024.size inb_S3x128x1024_S1x128x1024_2_0_0) (fun _ => rfl)
  let v232 : Memref sig .tc .vmem S128x1024 .bf16 := v231.squeeze S128x1024 squeezes_S1x128x1024_S128x1024
  Prog.lift (.waitDma2 v228.sem v232 v230 (((Memref.isWhole_whole cc0_scratch2).wordExact_slice rfl _ wordsbf16_S3x128x1024_S1x128x1024_2_0_0).reshape _ _) (((Memref.isWhole_whole cc0_scratch2).wordExact_slice rfl _ wordsbf16_S3x128x1024_S1x128x1024_1_0_0).reshape _ _))
  pure ⟨⟩

/-- The last three transfers have left. -/
theorem part9 (K : Dev nD × Fin 13 → ℕ) (c : Dev nD) {Q : PUnit → sProp 𝕄} :
    iprop(records m ρ K ∗ levAts L lv ∗ owing c 0 ∗ cred (tallyAt (cell c 4) () N) ∗ fresh c 4 ∗ cred (tallyAt (cell c 5) () N) ∗ fresh c 5 ∗ cred (tallyAt (cell c 6) () N) ∗ fresh c 6)
      ⊢ iprop(((owing c 0 ∗ spent c 4 ∗ spent c 5 ∗ spent c 6 ∗ ownsTc c xS0 fullShare.right.right (xTop m ρ c) ∗ ownsTc c lS0 fullShare.right (xTop m ρ (prv c)) ∗ ownsTc c rS1 fullShare.right (xBot m ρ (nxt c))) -∗ Q ⟨⟩) -∗ wpc c (ending (F := F)) Q) := by
  unfold ending
  simp only [Prog.lift, Prog.bind_op, Prog.bind_ret, Prog.pure_eq_ret, Prog.bind_assoc, send3, send4, send5]
  iintro ⟨#HR, #HL, HO, Hc4, Hat4, Hc5, Hat5, Hc6, Hat6⟩ Hk
  iapply (wp_take m ρ K c 4 (src := sq rS0) (dst := sq xS0) rfl 0 3 (by decide) (above_zero 3) rfl) $$ [Hc4 HO Hat4]
  · isplitr; · iexact HR
    isplitr; · iexact HL
    isplitl [Hc4]; · iexact Hc4
    isplitl [HO]; · iexact HO
    iexact Hat4
  iintro ⟨HO, Hat4, H4⟩
  ihave H4 := (show carried m ρ c (6 : DmaSem sig).val ⊢ ownsTc c xS0 fullShare.right.right (xTop m ρ c) from .rfl) $$ H4
  iapply (wp_take m ρ K c 5 (src := sq lS2) (dst := sq lS0) rfl 0 3 (by decide) (above_zero 3) rfl) $$ [Hc5 HO Hat5]
  · isplitr; · iexact HR
    isplitr; · iexact HL
    isplitl [Hc5]; · iexact Hc5
    isplitl [HO]; · iexact HO
    iexact Hat5
  iintro ⟨HO, Hat5, H5⟩
  ihave H5 := (show carried m ρ c (7 : DmaSem sig).val ⊢ ownsTc c lS0 fullShare.right (xTop m ρ (prv c)) from .rfl) $$ H5
  iapply (wp_take m ρ K c 6 (src := sq rS2) (dst := sq rS1) rfl 0 3 (by decide) (above_zero 3) rfl) $$ [Hc6 HO Hat6]
  · isplitr; · iexact HR
    isplitr; · iexact HL
    isplitl [Hc6]; · iexact Hc6
    isplitl [HO]; · iexact HO
    iexact Hat6
  iintro ⟨HO, Hat6, H6⟩
  ihave H6 := (show carried m ρ c (8 : DmaSem sig).val ⊢ ownsTc c rS1 fullShare.right (xBot m ρ (nxt c)) from .rfl) $$ H6
  iapply (done c)
  iapply Hk
  isplitl [HO]; · iexact HO
  isplitl [Hat4]; · iexact Hat4
  isplitl [Hat5]; · iexact Hat5
  isplitl [Hat6]; · iexact Hat6
  isplitl [H4]; · iexact H4
  isplitl [H5]; · iexact H5
  iexact H6

set_option maxHeartbeats 1000000 in
/-- The body, from its buffers and the schedule's resources to the result and every buffer and counter back. -/
theorem sound_body (K : Dev nD × Fin 13 → ℕ) (c : Dev nD) (f : Res F) {Q : PUnit → sProp 𝕄} :
    iprop(records m ρ K ∗ levAts L lv ∗ (bigSep Finset.univ fun k : Fin 13 => fresh (F := F) c k) ∗ payToks c
        ∗ (cred (tallyAt (cell c 0) () 2) ∗ cred (tallyAt (cell c 7) () N) ∗ cred (tallyAt (cell c 8) () N) ∗ cred (tallyAt (cell c 9) () N) ∗ cred (tallyAt (cell c 10) () N) ∗ cred (tallyAt (cell c 11) () N) ∗ cred (tallyAt (cell c 12) () N)) ∗ scratches c ∗ owing c (O₀ c)
        ∗ (((c : Thread nD τ).loc cc0_stg0_0) ↦{fullShare} xstg m ρ c) ∗ (((c : Thread nD τ).loc cc0_stg1_0) ↦{fullShare} wstg m ρ c)
        ∗ (((c : Thread nD τ).loc cc0_stg2_0) ↦{fullShare} f))
      ⊢ iprop(((owing c 0 ∗ scratches c ∗ (bigSep Finset.univ fun k : Fin 13 => semVal (cell c k) 0)
          ∗ (((c : Thread nD τ).loc cc0_stg0_0) ↦{fullShare} xstg m ρ c) ∗ (((c : Thread nD τ).loc cc0_stg1_0) ↦{fullShare} wstg m ρ c)
          ∗ (((c : Thread nD τ).loc cc0_stg2_0) ↦{fullShare} outAt m ρ c)) -∗ Q ⟨⟩)
        -∗ wpc c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Q) := by
  rw [cc0_body_eq_skeleton]; unfold cc0_body_skel
  rw [bigSep_cells]
  unfold payToks scratches
  iintro ⟨#HR, #HL, ⟨F0, F1, F2, F3, F4, F5, F6, F7, F8, F9, F10, F11, F12⟩, ⟨Tb1, Tb2, T7, T11, T8, T10, T9, T12, T1, T2, T3, T4, T5, T6⟩, ⟨C0, C7, C8, C9, C10, C11, C12⟩,
    ⟨⟨%g0, S0⟩, ⟨%g1, S1⟩, ⟨%g2, S2⟩⟩, HO, Hx, Hw, Ho⟩ Hk
  ihave Y := (split_x c g0) $$ S0
  icases Y with ⟨X0, X1⟩
  ihave HlA := (show _ ⊢ fromLeft (F := F) c from split_l c g1) $$ S1
  ihave HrA := (show _ ⊢ fromRight (F := F) c from split_r c g2) $$ S2
  iapply (and_then c)
  iapply (part1 m ρ K c ) $$ [C0 HO F0 Tb1 Tb2 HlA HrA Hx X0 X1]
  · isplitr; · iexact HR
    isplitr; · iexact HL
    isplitl [C0]; · iexact C0
    isplitl [HO]; · iexact HO
    isplitl [F0]; · iexact F0
    isplitl [Tb1]; · iexact Tb1
    isplitl [Tb2]; · iexact Tb2
    isplitl [HlA]; · iexact HlA
    isplitl [HrA]; · iexact HrA
    isplitl [Hx]; · iexact Hx
    isplitl [X0]; · iexact X0
    iexact X1
  iintro %v2 %v5 %v7 %v9 ⟨HO, F0, HrA, HlA, Hx, X0, X1⟩
  ihave Y := (show fromLeft (F := F) (nxt c) ⊢ iprop(ownsAny (nxt c) lS0 ∗ ownsAny (nxt c) lS1 ∗ ownsAny (nxt c) lS2) from .rfl) $$ HlA
  icases Y with ⟨A0, A1, A2⟩
  ihave Y := (show fromRight (F := F) (prv c) ⊢ iprop(ownsAny (prv c) rS0 ∗ ownsAny (prv c) rS1 ∗ ownsAny (prv c) rS2) from .rfl) $$ HrA
  icases Y with ⟨B0, B1, B2⟩
  ihave Y := (owns_split c xS0 fullShare _) $$ X0
  icases Y with ⟨X0l, X0r⟩
  ihave Y := (owns_split c xS0 fullShare.right _) $$ X0r
  icases Y with ⟨X0a, X0b⟩
  ihave Y := (owns_split c xS1 fullShare _) $$ X1
  icases Y with ⟨X1l, X1r⟩
  ihave Y := (owns_split c xS1 fullShare.right _) $$ X1r
  icases Y with ⟨X1a, X1b⟩
  iapply (and_then c)
  iapply (part2 m ρ K c v5 v7) $$ [X0a X1a A0 B1 HO T1 T7 T2 T11]
  · isplitr; · iexact HR
    isplitl [X0a]; · iexact X0a
    isplitl [X1a]; · iexact X1a
    isplitl [A0]; · iexact A0
    isplitl [B1]; · iexact B1
    isplitl [HO]; · iexact HO
    isplitl [T1]; · iexact T1
    isplitl [T7]; · iexact T7
    isplitl [T2]; · iexact T2
    iexact T11
  iintro ⟨HO, C1, C2⟩
  iapply (and_then c)
  iapply (part3 m ρ K c v2 v5 v7 f) $$ [X1b X0b A1 B0 HO T3 T8 T4 T10 Hw X0l X1l Ho]
  · isplitr; · iexact HR
    isplitl [X1b]; · iexact X1b
    isplitl [X0b]; · iexact X0b
    isplitl [A1]; · iexact A1
    isplitl [B0]; · iexact B0
    isplitl [HO]; · iexact HO
    isplitl [T3]; · iexact T3
    isplitl [T8]; · iexact T8
    isplitl [T4]; · iexact T4
    isplitl [T10]; · iexact T10
    isplitl [Hw]; · iexact Hw
    isplitl [X0l]; · iexact X0l
    isplitl [X1l]; · iexact X1l
    iexact Ho
  iintro ⟨HO, C3, C4, Hw, X0l, X1l, Ho⟩
  iapply (and_then c)
  iapply (part4 m ρ K c v5 v7) $$ [C7 HO F7 A2 T5 T9 C11 F11]
  · isplitr; · iexact HR
    isplitr; · iexact HL
    isplitl [C7]; · iexact C7
    isplitl [HO]; · iexact HO
    isplitl [F7]; · iexact F7
    isplitl [A2]; · iexact A2
    isplitl [T5]; · iexact T5
    isplitl [T9]; · iexact T9
    isplitl [C11]; · iexact C11
    iexact F11
  iintro ⟨HO, F7, F11, L0l, C5, R1⟩
  iapply (and_then c)
  iapply (part5 m ρ K c v5 v7 (k0_pay3 (wVal m ρ c)) _) $$ [R1 B2 HO T6 T12 L0l Ho]
  · isplitr; · iexact HR
    isplitl [R1]; · iexact R1
    isplitl [B2]; · iexact B2
    isplitl [HO]; · iexact HO
    isplitl [T6]; · iexact T6
    isplitl [T12]; · iexact T12
    isplitl [L0l]; · iexact L0l
    iexact Ho
  iintro ⟨HO, C6, R1l, L0l, Ho⟩
  iapply (and_then c)
  iapply (part6 m ρ K c v5 v7 (k0_pay3 (wVal m ρ c)) _) $$ [C8 C10 F8 F10 HO Ho]
  · isplitr; · iexact HR
    isplitr; · iexact HL
    isplitl [C8]; · iexact C8
    isplitl [C10]; · iexact C10
    isplitl [F8]; · iexact F8
    isplitl [F10]; · iexact F10
    isplitl [HO]; · iexact HO
    iexact Ho
  iintro %v164 ⟨HO, F8, F10, L1, R0, Ho⟩
  iapply (and_then c)
  iapply (part7 m ρ K c v5 v9 (k0_pay3 (wVal m ρ c)) v164 _) $$ [C9 C12 F9 F12 HO Ho]
  · isplitr; · iexact HR
    isplitr; · iexact HL
    isplitl [C9]; · iexact C9
    isplitl [C12]; · iexact C12
    isplitl [F9]; · iexact F9
    isplitl [F12]; · iexact F12
    isplitl [HO]; · iexact HO
    iexact Ho
  iintro %v191 ⟨HO, F9, F12, L2, R2, Ho⟩
  iapply (and_then c)
  iapply (part8 m ρ K c v191 _ _ _) $$ [HO Ho C1 F1 C2 F2 C3 F3]
  · isplitr; · iexact HR
    isplitr; · iexact HL
    isplitl [HO]; · iexact HO
    isplitl [Ho]; · iexact Ho
    isplitl [C1]; · iexact C1
    isplitl [F1]; · iexact F1
    isplitl [C2]; · iexact C2
    isplitl [F2]; · iexact F2
    isplitl [C3]; · iexact C3
    iexact F3
  iintro ⟨HO, Ho, F1, F2, F3, X0a, X1a, X1b⟩
  iapply (at_end c)
  iapply (part9 m ρ K c ) $$ [HO C4 F4 C5 F5 C6 F6]
  · isplitr; · iexact HR
    isplitr; · iexact HL
    isplitl [HO]; · iexact HO
    isplitl [C4]; · iexact C4
    isplitl [F4]; · iexact F4
    isplitl [C5]; · iexact C5
    isplitl [F5]; · iexact F5
    isplitl [C6]; · iexact C6
    iexact F6
  iintro ⟨HO, F4, F5, F6, X0b, L0r, R1r⟩
  ihave X0r := (owns_join c xS0 fullShare.right _) $$ [X0a X0b]
  · isplitl [X0a] <;> iassumption
  ihave X0 := (owns_join c xS0 fullShare _) $$ [X0l X0r]
  · isplitl [X0l] <;> iassumption
  ihave X1r := (owns_join c xS1 fullShare.right _) $$ [X1a X1b]
  · isplitl [X1a] <;> iassumption
  ihave X1 := (owns_join c xS1 fullShare _) $$ [X1l X1r]
  · isplitl [X1l] <;> iassumption
  ihave L0 := (owns_join c lS0 fullShare _) $$ [L0l L0r]
  · isplitl [L0l] <;> iassumption
  ihave R1 := (owns_join c rS1 fullShare _) $$ [R1l R1r]
  · isplitl [R1l] <;> iassumption
  ihave S0 := (join_x c) $$ [X0 X1]
  · isplitl [X0]; · iapply (ownsAny_intro c xS0 _); iexact X0
    iapply (ownsAny_intro c xS1 _); iexact X1
  ihave S1 := (join_l c) $$ [L0 L1 L2]
  · isplitl [L0]; · iapply (ownsAny_intro c lS0 _); iexact L0
    isplitl [L1]; · iapply (ownsAny_intro c lS1 _); iexact L1
    iapply (ownsAny_intro c lS2 _); iexact L2
  ihave S2 := (join_r c) $$ [R0 R1 R2]
  · isplitl [R0]; · iapply (ownsAny_intro c rS0 _); iexact R0
    isplitl [R1]; · iapply (ownsAny_intro c rS1 _); iexact R1
    iapply (ownsAny_intro c rS2 _); iexact R2
  imod (close_all m ρ K c) $$ [F0 F1 F2 F3 F4 F5 F6 F7 F8 F9 F10 F11 F12] with Hz
  · isplitr; · iexact HR
    iapply (Entails.of_eq (bigSep_cells _).symm)
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    iexact F12
  imodintro
  iapply Hk
  isplitl [HO]; · iexact HO
  isplitl [S0 S1 S2]
  · isplitl [S0]; · iexact S0
    isplitl [S1]; · iexact S1
    iexact S2
  isplitl [Hz]; · iexact Hz
  isplitl [Hx]; · iexact Hx
  isplitl [Hw]; · iexact Hw
  iapply (Entails.of_eq (congrArg (fun X : Res F => ((((c : Thread nD τ).loc cc0_stg2_0) ↦{fullShare} X) : sProp 𝕄)) (stores_same c f (fun _ => Scalar.ofBits .f32 0x00000000#32) _ _ _ _ _ _ _)))
  iexact Ho

end Cert.Relay

end
-- ==== Proof.Launch.lean ====
/-
# The launch: the schedule's resources dealt to the devices
-/
module

public import proofs.«01_k».proof.Proof.Body

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kcell_injective : Function.Injective (kcell : Dev nD × Fin 13 → GSem nD τ sig) := by
  rintro ⟨c, k⟩ ⟨c', k'⟩ h
  have h1 : c = c' := congrArg (fun g : GSem nD τ sig => g.1.1) h
  have h2 : csem k = csem k' := congrArg Prod.snd h
  have h3 : ∀ a b : Fin 13, csem a = csem b → a = b := by decide
  rw [h1, h3 k k' h2]

/-- Every semaphore the devices meet at. -/
def allCells : Finset (GSem nD τ sig) := Finset.univ.map ⟨kcell, kcell_injective⟩

/-- A device's duty tokens as they are minted: each semaphore's one, and the barrier's second. -/
abbrev minted (j : Fin 14) : Fin 13 × Bool := if h : j.val < 13 then (⟨j.val, h⟩, false) else (0, true)
abbrev tokOf (cj : Dev nD × Fin 14) : GSem nD τ sig × ℕ × Bool := (cell cj.1 (minted cj.2).1, 0, (minted cj.2).2)
theorem tokOf_injective : Function.Injective (tokOf : Dev nD × Fin 14 → GSem nD τ sig × ℕ × Bool) := by
  rintro ⟨c, j⟩ ⟨c', j'⟩ h
  have h1 := kcell_injective (a₁ := (c, (minted j).1)) (a₂ := (c', (minted j').1)) (congrArg Prod.fst h)
  have h2 : (minted j).2 = (minted j').2 := congrArg (fun x : GSem nD τ sig × ℕ × Bool => x.2.2) h
  have h3 : ∀ a b : Fin 14, (minted a).1 = (minted b).1 → (minted a).2 = (minted b).2 → a = b := by decide
  rw [show c = c' from congrArg Prod.fst h1, h3 j j' (congrArg Prod.snd h1) h2]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own semaphores. -/
def toks (c : Dev nD) : sProp 𝕄 := bigSep Finset.univ fun j : Fin 14 => dutyTok ER (cell c (minted j).1) 0 (minted j).2

/-- What the launch deals device `c`. -/
def G (c : Dev nD) : sProp 𝕄 :=
  iprop((bigSep Finset.univ fun k : Fin 13 => roundState ER (rd m ρ) (kcell (c, k)) 0)
    ∗ (bigSep Finset.univ fun k : Fin 13 => fresh (F := F) c k) ∗ (bigSep Finset.univ fun k : Fin 13 => reached ER (kcell (c, k)) 0) ∗ toks c)

/-- What device `c` has once the invariants stand. -/
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 13 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores -/

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

/-- The counters of a device's thirteen semaphores: the barrier's, outside the kernel, and the kernel's own twelve. -/
theorem counters_eq (c : Dev nD) :
    (bigSep Finset.univ fun k : Fin 13 => (semVal (cell c k) 0 : sProp 𝕄)) = iprop(unscopedSems0 c ∗ Pipeline.ownSems0 (Ix := Unit) (Name := ℕ) (U := UU) (Lvl := ℕ) (Val := Elt F) (τ := τ) osem c) := by
  rw [ownSems0_eq, unscopedSems0_eq, bigSep_cells]

/-! ## The invariants allocated -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : Fin 13 => fresh (F := F) c k) ∗ (bigSep Finset.univ fun k : Fin 13 => reached ER (kcell (c, k)) 0) ∗ toks c) := by
  have halloc : iprop((bigSep Finset.univ fun k : Fin 13 => semVal (kcell (c, k)) 0) ∗ bigSep Finset.univ fun k : Fin 13 => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  iintro ⟨Hos, Hus, Hst, Hrest⟩
  ihave Hv := (Entails.of_eq (counters_eq (F := F) c).symm) $$ [Hos Hus]
  · isplitl [Hus] <;> iassumption
  imod halloc $$ [Hv Hst] with Hinv
  · isplitl [Hv] <;> iassumption
  imodintro
  isplitl [Hinv] <;> iassumption

/-! ## The tokens dealt to the devices that pay with them -/

theorem deal_prv (k : Fin 13) (b : Bool) :
    (bigSep Finset.univ fun c : Dev nD => (dutyTok ER (cell c k) 0 b : sProp 𝕄)) ⊢ bigSep Finset.univ fun c : Dev nD => dutyTok ER (cell (prv c) k) 0 b :=
  Entails.of_eq (bigSep_univ_equiv ring.symm (fun c : Dev nD => (dutyTok ER (cell c k) 0 b : sProp 𝕄)))
theorem deal_nxt (k : Fin 13) (b : Bool) :
    (bigSep Finset.univ fun c : Dev nD => (dutyTok ER (cell c k) 0 b : sProp 𝕄)) ⊢ bigSep Finset.univ fun c : Dev nD => dutyTok ER (cell (nxt c) k) 0 b :=
  Entails.of_eq (bigSep_univ_equiv ring (fun c : Dev nD => (dutyTok ER (cell c k) 0 b : sProp 𝕄)))

theorem toks_eq (c : Dev nD) : (toks c : sProp 𝕄) = iprop(dutyTok ER (cell c 0) 0 false ∗ dutyTok ER (cell c 1) 0 false ∗ dutyTok ER (cell c 2) 0 false ∗ dutyTok ER (cell c 3) 0 false ∗ dutyTok ER (cell c 4) 0 false ∗ dutyTok ER (cell c 5) 0 false ∗ dutyTok ER (cell c 6) 0 false ∗ dutyTok ER (cell c 7) 0 false ∗ dutyTok ER (cell c 8) 0 false ∗ dutyTok ER (cell c 9) 0 false ∗ dutyTok ER (cell c 10) 0 false ∗ dutyTok ER (cell c 11) 0 false ∗ dutyTok ER (cell c 12) 0 false ∗ dutyTok ER (cell c 0) 0 true) := by
  unfold toks
  rw [bigSep_univ_eq_bigSepL [0, 1, 2, 3, 4, 5, 6, 7, 8, 9, 10, 11, 12, 13] (by decide) (by decide)]; rfl

theorem toks_dealt : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨H0, H1, H2, H3, H4, H5, H6, H7, H8, H9, H10, H11, H12, HB⟩
  isplitl [HB]; · iapply (deal_prv (F := F) 0 true); iexact HB
  isplitl [H0]; · iapply (deal_nxt (F := F) 0 false); iexact H0
  isplitl [H7]; · iapply (deal_nxt (F := F) 7 false); iexact H7
  isplitl [H11]; · iapply (deal_prv (F := F) 11 false); iexact H11
  isplitl [H8]; · iapply (deal_nxt (F := F) 8 false); iexact H8
  isplitl [H10]; · iapply (deal_prv (F := F) 10 false); iexact H10
  isplitl [H9]; · iapply (deal_nxt (F := F) 9 false); iexact H9
  isplitl [H12]; · iapply (deal_prv (F := F) 12 false); iexact H12
  isplitl [H1]; · iexact H1
  isplitl [H2]; · iexact H2
  isplitl [H3]; · iexact H3
  isplitl [H4]; · iexact H4
  isplitl [H5]; · iexact H5
  iexact H6

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal :
    (bigSep Finset.univ fun c : Dev nD => iprop((bigSep Finset.univ fun k => iprop(∃ κ : ℕ, cellInv ER (rd m ρ) κ (kcell (c, k))))
          ∗ (bigSep Finset.univ fun k : Fin 13 => fresh (F := F) c k) ∗ (bigSep Finset.univ fun k : Fin 13 => reached ER (kcell (c, k)) 0) ∗ toks c) : sProp 𝕄)
      ⊢ bigSep Finset.univ (G' m ρ) := by
  rw [bigSep_sep', bigSep_sep', bigSep_sep', ← bigSep_univ_prod (fun ck : Dev nD × Fin 13 => iprop(∃ κ : ℕ, cellInv ER (rd m ρ) κ (kcell ck))),
    ← bigSep_univ_prod (fun ck : Dev nD × Fin 13 => (reached ER (kcell ck) 0 : sProp 𝕄))]
  iintro ⟨HI, Hat, #HR, Htok⟩
  ihave HK := (BI.bigSep_exists_pi Finset.univ (fun (ck : Dev nD × Fin 13) (κ : ℕ) => (cellInv ER (rd m ρ) κ (kcell ck) : sProp 𝕄))) $$ HI
  icases HK with ⟨%K, #HI⟩
  ihave Htk := (toks_dealt (F := F)) $$ Htok
  iapply (with_persistent (R := records m ρ K) (Φ := linear) fun c _ => show iprop(records m ρ K ∗ linear c) ⊢ G' m ρ c by
    unfold G'; iintro H; iexists K; iexact H)
  isplitr
  · unfold records; isplitl; · iexact HI
    iexact HR
  · unfold linear; simp only [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (deal m ρ))

/-! ## The launch credit -/

/-- A device's duty at one semaphore, read at another. -/
theorem tally_cell (p c : Dev nD) (j k : Fin 13) (n : ℕ) : tallyAt (cell p j) () n (cell c k) () = if p = c ∧ j = k then n else 0 := by
  rw [tallyAt_apply]
  refine if_congr ⟨fun h => ?_, fun h => ⟨by rw [h.1, h.2], rfl⟩⟩ rfl rfl
  have h1 := kcell_injective (a₁ := (c, k)) (a₂ := (p, j)) h.1
  exact ⟨(congrArg Prod.fst h1).symm, (congrArg Prod.snd h1).symm⟩

theorem sum_prv (c : Dev nD) (n : ℕ) : (∑ d : Dev nD, if prv d = c then n else 0) = n := by
  rw [Finset.sum_congr rfl fun d _ => if_congr (show prv d = c ↔ d = nxt c from ⟨fun h => by rw [← h, nxt_prv], fun h => by rw [h, prv_nxt]⟩) rfl rfl,
    Finset.sum_ite_eq' Finset.univ (nxt c) fun _ => n, if_pos (Finset.mem_univ _)]
theorem sum_nxt (c : Dev nD) (n : ℕ) : (∑ d : Dev nD, if nxt d = c then n else 0) = n := by
  rw [Finset.sum_congr rfl fun d _ => if_congr (show nxt d = c ↔ d = prv c from ⟨fun h => by rw [← h, prv_nxt], fun h => by rw [h, nxt_prv]⟩) rfl rfl,
    Finset.sum_ite_eq' Finset.univ (prv c) fun _ => n, if_pos (Finset.mem_univ _)]

/-- What device `d` owes device `c`'s semaphore `k`. -/
theorem owed_cell (d c : Dev nD) (k : Fin 13) : O₀ d (cell c k) () =
    ((((((((if prv d = c ∧ 12 = k then N else 0) + if nxt d = c ∧ 9 = k then N else 0) + if prv d = c ∧ 10 = k then N else 0)
      + if nxt d = c ∧ 8 = k then N else 0) + if prv d = c ∧ 11 = k then N else 0) + if nxt d = c ∧ 7 = k then N else 0)
      + if nxt d = c ∧ 0 = k then 1 else 0) + if prv d = c ∧ 0 = k then 1 else 0) := by
  unfold O₀ O₁ O₂ O₃ O₄ O₅ O₆ O₇
  simp only [Pi.add_apply, Finsupp.add_apply]
  rw [tally_cell, tally_cell, tally_cell, tally_cell, tally_cell, tally_cell, tally_cell, tally_cell]

theorem launch_cell (c : Dev nD) (k : Fin 13) (n : ℕ) (h : (∑ d : Dev nD, O₀ d (cell c k) ()) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

theorem sum_7 (c : Dev nD) : (∑ d : Dev nD, O₀ d (cell c 7) ()) = N := by
  refine (Finset.sum_congr rfl fun d _ => ?_).trans (sum_nxt c N)
  rw [owed_cell]; simp (decide := true)
theorem sum_8 (c : Dev nD) : (∑ d : Dev nD, O₀ d (cell c 8) ()) = N := by
  refine (Finset.sum_congr rfl fun d _ => ?_).trans (sum_nxt c N)
  rw [owed_cell]; simp (decide := true)
theorem sum_9 (c : Dev nD) : (∑ d : Dev nD, O₀ d (cell c 9) ()) = N := by
  refine (Finset.sum_congr rfl fun d _ => ?_).trans (sum_nxt c N)
  rw [owed_cell]; simp (decide := true)
theorem sum_10 (c : Dev nD) : (∑ d : Dev nD, O₀ d (cell c 10) ()) = N := by
  refine (Finset.sum_congr rfl fun d _ => ?_).trans (sum_prv c N)
  rw [owed_cell]; simp (decide := true)
theorem sum_11 (c : Dev nD) : (∑ d : Dev nD, O₀ d (cell c 11) ()) = N := by
  refine (Finset.sum_congr rfl fun d _ => ?_).trans (sum_prv c N)
  rw [owed_cell]; simp (decide := true)
theorem sum_12 (c : Dev nD) : (∑ d : Dev nD, O₀ d (cell c 12) ()) = N := by
  refine (Finset.sum_congr rfl fun d _ => ?_).trans (sum_prv c N)
  rw [owed_cell]; simp (decide := true)
theorem sum_0 (c : Dev nD) : (∑ d : Dev nD, O₀ d (cell c 0) ()) = 2 := by
  have h : ∀ d : Dev nD, O₀ d (cell c 0) () = (if nxt d = c then 1 else 0) + (if prv d = c then 1 else 0) := fun d => by
    rw [owed_cell]; simp (decide := true)
  rw [Finset.sum_congr rfl fun d _ => h d, Finset.sum_add_distrib, sum_nxt, sum_prv]

theorem creds (c : Dev nD) : (Pipeline.launchCred O₀ c : sProp 𝕄)
    ⊢ iprop(cred (tallyAt (cell c 0) () 2) ∗ cred (tallyAt (cell c 7) () N) ∗ cred (tallyAt (cell c 8) () N) ∗ cred (tallyAt (cell c 9) () N) ∗ cred (tallyAt (cell c 10) () N) ∗ cred (tallyAt (cell c 11) () N) ∗ cred (tallyAt (cell c 12) () N)) := by
  unfold Pipeline.launchCred
  refine (bigSep_subset (t := [csem 0, csem 7, csem 8, csem 9, csem 10, csem 11, csem 12].toFinset) (Finset.subset_univ _)).trans ?_
  rw [bigSep_eq_bigSepL_of_eq [csem 0, csem 7, csem 8, csem 9, csem 10, csem 11, csem 12] rfl (by decide)]
  rw [← launch_cell c 0 2 (sum_0 c), ← launch_cell c 7 N (sum_7 c), ← launch_cell c 8 N (sum_8 c), ← launch_cell c 9 N (sum_9 c), ← launch_cell c 10 N (sum_10 c), ← launch_cell c 11 N (sum_11 c), ← launch_cell c 12 N (sum_12 c)]
  exact BI.Entails.refl _

end Cert.Relay

end
-- ==== Proof.Run.lean ====
/-
# The run: every execution ends, with the result's arrays as computed, the arguments as they were, the counters at zero
-/
module

public import proofs.«01_k».proof.Proof.Launch
public import Idealize.ShloMosaic.Lib.Pipeline.CollectiveSegs

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem fetched0 (t : Fin cfg0.N) : (cfg0.win (0 : Fin 3)).fetch t = true := by rw [fin_N t]; rfl
theorem fetched1 (t : Fin cfg0.N) : (cfg0.win (1 : Fin 3)).fetch t = true := by rw [fin_N t]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (wstg m ρ c) ∗ stg c cc0_stg2_0 (outAt m ρ c))

theorem body_run (c : Dev nD) : bodyPre m ρ c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => bodyPost m ρ c) := by
  unfold bodyPre Φ₀ start linear
  iintro ⟨⟨⟨⟨%K, #HR, Hat, Htok⟩, Hcr, #HL⟩, Hsc⟩, HO, ⟨%d0, %g0, %hg0, Hx⟩, ⟨%d1, %g1, %hg1, Hw⟩, ⟨%d2, %g2, %hg2, Ho⟩⟩
  have hx : g0 = xstg m ρ c := by rw [hg0]; unfold Dat.before; rw [if_pos (fetched0 t₀)]; rfl
  have hw : g1 = wstg m ρ c := by rw [hg1]; unfold Dat.before; rw [if_pos (fetched1 t₀)]; rfl
  subst hx; subst hw
  iapply (sound_body m ρ K c g2 (Q := fun _ => bodyPost m ρ c)) $$ [Hat Htok Hcr Hsc HO Hx Hw Ho]
  · isplitr; · iexact HR
    isplitr; · iexact HL
    isplitl [Hat]; · iexact Hat
    isplitl [Htok]; · iexact Htok
    isplitl [Hcr]; · iexact Hcr
    isplitl [Hsc]; · iexact Hsc
    isplitl [HO]
    · iapply (show (dats m ρ 0 c).owesAt () t₀.castSucc ⊢ owing (F := F) c (O₀ c) by
        unfold Dat.owesAt Pipeline.owesWithin owing
        rw [show (dats m ρ 0 c).owed t₀.castSucc = O₀ c from rfl]
        iintro ⟨%W, %hW, H⟩
        iexists W; iexact H)
      iexact HO
    isplitl [Hx]; · iexact Hx
    isplitl [Hw]; · iexact Hw
    iexact Ho
  iintro ⟨HO, Hsc, Hz, Hx, Hw, Ho⟩
  unfold bodyPost Φ₁
  isplitl [Hsc Hz]
  · isplitl [Hsc] <;> iassumption
  isplitl [HO]
  · iapply (show owing (F := F) c 0 ⊢ (dats m ρ 0 c).owesAt () t₀.succ by
      unfold Dat.owesAt Pipeline.owesWithin owing
      rw [show (dats m ρ 0 c).owed t₀.succ = 0 from rfl]
      iintro ⟨%W, H⟩
      iexists W
      isplitr
      · ipureintro; exact fun _ _ => Or.inl trivial
      · iexact H)
    iexact HO
  isplitl [Hx]
  · iexists _; isplitr
    · ipureintro; rfl
    · iexact Hx
  isplitl [Hw]
  · iexists _; isplitr
    · ipureintro; rfl
    · iexact Hw
  · iexists _; isplitr
    · ipureintro; rfl
    · iexact Ho

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  have h2 : (dats m ρ 0 c).after (2 : Fin 3) t₀ = outAt m ρ c := by dsimp only [dats]
  have h1 : (dats m ρ 0 c).after (1 : Fin 3) t₀ = wstg m ρ c := by dsimp only [dats]
  have h0 : (dats m ρ 0 c).after (0 : Fin 3) t₀ = xstg m ρ c := by dsimp only [dats]
  have hp : (dats m ρ 0 c).Φ t₀.succ = Φ₁ c := rfl
  rw [h0, h1, h2, hp]
  exact body_run m ρ c

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [counters_eq]
  unfold scratches
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> decide) _ (by
      rcases t with ⟨_ | _, ht⟩
      · exact above_O₀ c
      · exact above_zero 0)

/-! ## The run -/

/-- What window `w`'s array holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every fair execution of the four devices ends, each device's
    arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays end as they began. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Relay

end
-- ==== Proof.Arrays.lean ====
/-
# The arrays behind the staging buffers
-/
module

public import proofs.«01_k».proof.Proof.Run

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The launch has one point, so each window's one block is its whole array. -/

theorem x_corner : (fun a => (win0_0.index (0 : Fin 1)) a * main_arg0.ty.shape.size a) = fun _ => 0 := funext fun a => by fin_cases a <;> decide
theorem w_corner : (fun a => (win0_1.index (0 : Fin 1)) a * main_arg1.ty.shape.size a) = fun _ => 0 := funext fun a => by fin_cases a <;> decide
theorem o_corner : (fun a => (win0_2.index (0 : Fin 1)) a * main_v1.ty.shape.size a) = fun _ => 0 := funext fun a => by fin_cases a <;> decide

/-- What is fetched of the first argument is the device's array. -/
theorem xstg_eq (c : Dev nD) : xstg m ρ c = m ((c : Thread nD τ).loc main_arg0) :=
  Memref.read_access_unit_zero (Elt F) main_arg0 x_corner (fun a => by fin_cases a <;> decide) _

/-- What is fetched of the second argument is the device's array. -/
theorem wstg_eq (c : Dev nD) : wstg m ρ c = m ((c : Thread nD τ).loc main_arg1) :=
  Memref.read_access_unit_zero (Elt F) main_arg1 w_corner (fun a => by fin_cases a <;> decide) _

/-- The result array ends at what the body left in its staging buffer. -/
theorem finalA_o (c : Dev nD) : finalA m ρ c (2 : Fin 3) = outAt m ρ c := by
  have hr := Memref.read_access_unit_zero (Elt F) main_v1 o_corner (fun a => by fin_cases a <;> decide) (finalA m ρ c (2 : Fin 3))
  refine hr.symm.trans ?_
  show (win0_2.blk (0 : Fin 1)).view.read (Elt F) (finalA m ρ c (2 : Fin 3)) = outAt m ρ c
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  refine (View.read_write_univ _ _).trans ?_
  unfold Pipeline.Dat.flushed
  dsimp only [dats]
  rfl

/-- The weights are loaded whole. -/
theorem wVal_eq (c : Dev nD) : wVal m ρ c = m ((c : Thread nD τ).loc main_arg1) :=
  (Memref.readAt_unit_zero (Elt F) cc0_stg1_0 (funext fun a => by fin_cases a <;> rfl) inb_S1024x256_S1024x256_0_0 _).trans (wstg_eq m ρ c)

end Cert.Relay

end
-- ==== Proof.Product.lean ====
/-
# The products on the extended reals
-/
module

public import Idealize.ShloMosaic.Lib.Pointwise
public import proofs.«01_k».proof.Proof.Parts

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- Payload 5 at an index: row against column, cut off at zero. -/
theorem pay5_at (w : FVec Ideal S1024x256 .bf16) (v : Vec Ideal S1x128x1024 .bf16) (r : Fin 128) (j : Fin 256) :
    k0_pay5 w v (ix2 r j) = max (∑ k : Fin 1024, v (ix3 0 r k) * w (ix2 k j)) 0 := by
  pointwise [k0_pay5]

/-- Payload 6 at an index: row against column, cut off at zero. -/
theorem pay6_at (w : FVec Ideal S1024x256 .bf16) (v : Vec Ideal S1x128x1024 .bf16) (r : Fin 128) (j : Fin 256) :
    k0_pay6 w v (ix2 r j) = max (∑ k : Fin 1024, v (ix3 0 r k) * w (ix2 k j)) 0 := by
  pointwise [k0_pay6]

/-- Payload 7 at an index: row against column, cut off at zero. -/
theorem pay7_at (w : FVec Ideal S1024x256 .bf16) (v : Vec Ideal S1x128x1024 .bf16) (r : Fin 128) (j : Fin 256) :
    k0_pay7 w v (ix2 r j) = max (∑ k : Fin 1024, v (ix3 0 r k) * w (ix2 k j)) 0 := by
  pointwise [k0_pay7]

/-- Payload 8 at an index: row against column, cut off at zero. -/
theorem pay8_at (w : FVec Ideal S1024x256 .bf16) (v : Vec Ideal S1x128x1024 .bf16) (r : Fin 128) (j : Fin 256) :
    k0_pay8 w v (ix2 r j) = max (∑ k : Fin 1024, v (ix3 0 r k) * w (ix2 k j)) 0 := by
  pointwise [k0_pay8]

/-- Payload 9 at an index: row against column, cut off at zero. -/
theorem pay9_at (w : FVec Ideal S1024x256 .bf16) (v : Vec Ideal S1x128x1024 .bf16) (r : Fin 128) (j : Fin 256) :
    k0_pay9 w v (ix2 r j) = max (∑ k : Fin 1024, v (ix3 0 r k) * w (ix2 k j)) 0 := by
  pointwise [k0_pay9]

/-- The last slab's product and its cut-off, stated apart by the kernel. -/
theorem pay11_at (w : FVec Ideal S1024x256 .bf16) (v : Vec Ideal S1x128x1024 .bf16) (r : Fin 128) (j : Fin 256) :
    k0_pay11 (k0_pay10 w v) (Scalar.ofBits .f32 0x00000000#32) (ix2 r j) = max (∑ k : Fin 1024, v (ix3 0 r k) * w (ix2 k j)) 0 := by
  pointwise [k0_pay11, k0_pay10]

/-- The weights are passed on as loaded. -/
theorem pay3_at (w : Vec Ideal S1024x256 .bf16) (k : Fin 1024) (j : Fin 256) : k0_pay3 w (ix2 k j) = w (ix2 k j) := by
  pointwise [k0_pay3]

/-- The upper half of a device's rows as sent. -/
theorem pay1_at (v : Vec Ideal S128x1024 .bf16) (r : Fin 128) (k : Fin 1024) : k0_pay1 v (ix3 0 r k) = v (ix2 r k) := by
  pointwise [k0_pay1]

/-- The lower half of a device's rows as sent. -/
theorem pay2_at (v : Vec Ideal S128x1024 .bf16) (r : Fin 128) (k : Fin 1024) : k0_pay2 v (ix3 0 r k) = v (ix2 r k) := by
  pointwise [k0_pay2]

/-- The device's own rows: the upper half's and the lower half's, one above the other. -/
theorem pay4_at (w : Vec Ideal S1024x256 .bf16) (u v : Vec Ideal S1x128x1024 .bf16) (r : Fin 256) (j : Fin 256) :
    k0_pay4 w u v (ix2 r j) = max (∑ k : Fin 1024,
      (if h : r.val < 128 then u (ix3 0 ⟨r.val, h⟩ k) else v (ix3 0 ⟨r.val - 128, by omega⟩ k)) * w (ix2 k j)) 0 := by
  pointwise [k0_pay4, k0_pay3]

end Cert.Relay

end
-- ==== Proof.Whole.lean ====
/-
# The reference's result, by element and by device
-/
module

public import Idealize.ShloMosaic.Lib.Pointwise
public import Idealize.ShloMosaic.Lib.Layout
public import proofs.«01_k».proof.Proof.Gen.ReferenceIdeal

@[expose] public section

noncomputable section

namespace Cert.Relay

open Cert.ReferenceIdeal Cert.ReferenceIdeal.Gen
open Idealize.ShloMosaic
open scoped BigOperators

/-- The reference's result as a function of its two whole arguments. -/
def whole (X W : FVec Ideal S1024x1024 .bf16) : FVec Ideal S1024x1024 .f32 :=
  maximumf (extf .f32 (truncf .bf16 (Host.dotGeneral dot_S1024x1024_S1024x1024_S1024x1024_1_0_0_1_n_n none X W) bitsLt_bf16_f32) bitsLt_bf16_f32)
    (broadcastInDim S1024x1024 ![] bcast_S_S1024x1024 (constant S_ .f32 0x00000000#32))

/-- At row `i 0`, column `i 1`: the row against the column, cut off at zero. -/
theorem whole_at (X W : FVec Ideal S1024x1024 .bf16) (i : S1024x1024.Idx) :
    whole X W i = max (∑ k : Fin 1024, X (ix2 (i 0) k) * W (ix2 k (i 1))) 0 := by
  pointwise [whole]

/-- Four blocks of rows, one above the other, and four blocks of columns, side by side, make the whole. -/
theorem row_tiles : Layout.Tiles ⟨2, ![256, 1024]⟩ ⟨2, ![1024, 1024]⟩ 0 4 := by decide
theorem col_tiles : Layout.Tiles ⟨2, ![1024, 256]⟩ ⟨2, ![1024, 1024]⟩ 1 4 := by decide

/-- Row `r` of device `d`'s block of rows is row `256 d + r` of the whole. -/
theorem row_block (X : FVec Ideal S1024x1024 .bf16) (d : Fin 4) (r : Fin 256) (k R : Fin 1024) (hR : R.val = 256 * d.val + r.val) :
    Layout.block ⟨2, ![256, 1024]⟩ ⟨2, ![1024, 1024]⟩ 0 4 d X row_tiles (ix2 r k) = X (ix2 R k) := by
  rw [Layout.block_apply]
  refine congrArg X (funext fun a => Fin.ext ?_)
  have e := Layout.idx_rows_val row_tiles d (ix2 r k)
  match a with
  | ⟨0, _⟩ => refine e.1.trans ?_; show d.val * 256 + r.val = R.val; omega
  | ⟨1, _⟩ => exact e.2

/-- Column `j` of device `d`'s block of columns is column `256 d + j` of the whole. -/
theorem col_block (W : FVec Ideal S1024x1024 .bf16) (d : Fin 4) (k : Fin 1024) (j : Fin 256) (J : Fin 1024) (hJ : J.val = 256 * d.val + j.val) :
    Layout.block ⟨2, ![1024, 256]⟩ ⟨2, ![1024, 1024]⟩ 1 4 d W col_tiles (ix2 k j) = W (ix2 k J) := by
  rw [Layout.block_apply]
  refine congrArg W (funext fun a => Fin.ext ?_)
  have e := Layout.idx_cols_val col_tiles d (ix2 k j)
  match a with
  | ⟨0, _⟩ => exact e.1
  | ⟨1, _⟩ => refine e.2.trans ?_; show d.val * 256 + j.val = J.val; omega

/-- Device `c`'s block of columns of the result. -/
def part (X W : FVec Ideal S1024x1024 .bf16) (c : Fin 4) : FVec Ideal ⟨2, ![1024, 256]⟩ .f32 :=
  Layout.block ⟨2, ![1024, 256]⟩ ⟨2, ![1024, 1024]⟩ 1 4 c (whole X W) col_tiles

/-- Its element at row `R`, column `j`, from the whole arguments. -/
theorem part_at (X W : FVec Ideal S1024x1024 .bf16) (c : Fin 4) (i : (⟨2, ![1024, 256]⟩ : Shape).Idx) (R J : Fin 1024)
    (hR : R.val = (i 0).val) (hJ : J.val = 256 * c.val + (i 1).val) :
    part X W c i = max (∑ k : Fin 1024, X (ix2 R k) * W (ix2 k J)) 0 := by
  unfold part
  rw [Layout.block_apply, whole_at]
  have e := Layout.idx_cols_val col_tiles c i
  have e0 : col_tiles.idx c i 0 = R := Fin.ext (e.1.trans hR.symm)
  have e1 : col_tiles.idx c i 1 = J := Fin.ext (e.2.trans (by show c.val * 256 + (i 1).val = J.val; omega))
  rw [e0, e1]

end Cert.Relay

end
-- ==== Proof.Equation.lean ====
/-
# Each device's result is its block of the reference's
-/
module

public import Idealize.ShloMosaic.Lib.Pipeline.ValueKit.Geometry
public import proofs.«01_k».proof.Proof.Arrays
public import proofs.«01_k».proof.Proof.Product
public import proofs.«01_k».proof.Proof.Whole

@[expose] public section

noncomputable section

namespace Cert.Relay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

variable (m : (ℓ : Loc nD τ sig) → Buf (Elt Ideal) ℓ) (ρ : Dev nD → PrngReg)

/-- An element of a window of whole rows, placed in the result: its row moved down by the window's first row. -/
theorem rows_place (off : Fin 2 → ℕ) (h n : ℕ) (inb) (hoff : off = ![n, 0]) (j : (Rect.unit (s := S1024x256) off ![h, 256] inb).shape.Idx) :
    ((Rect.unit (s := S1024x256) off ![h, 256] inb).emb j 0).val = n + (j 0).val ∧ ((Rect.unit (s := S1024x256) off ![h, 256] inb).emb j 1).val = (j 1).val := by
  subst hoff
  exact ⟨ValueKit.rect_emb_unit_val _ _ inb j 0, (ValueKit.rect_emb_unit_val _ _ inb j 1).trans (Nat.zero_add _)⟩

/-- The two whole arrays of which the devices hold their blocks. -/
structure Held (X W : FVec Ideal ⟨2, ![1024, 1024]⟩ .bf16) : Prop where
  x : ∀ d : Dev nD, m ((d : Thread nD τ).loc main_arg0) = Layout.block ⟨2, ![256, 1024]⟩ ⟨2, ![1024, 1024]⟩ 0 4 d X row_tiles
  w : ∀ d : Dev nD, m ((d : Thread nD τ).loc main_arg1) = Layout.block ⟨2, ![1024, 256]⟩ ⟨2, ![1024, 1024]⟩ 1 4 d W col_tiles

section
variable {m} {X W : FVec Ideal ⟨2, ![1024, 1024]⟩ .bf16} (H : Held m X W)
include H

/-- The upper half sent from device `d` is rows `256 d …` of the whole. -/
theorem top_at (d : Dev nD) (r : Fin 128) (k R : Fin 1024) (hR : R.val = 256 * d.val + r.val) : xTop m ρ d (ix3 0 r k) = X (ix2 R k) := by
  unfold xTop
  rw [pay1_at, xstg_eq, H.x d, View.readAt_apply]
  refine Eq.trans (congrArg _ (funext fun a => Fin.ext ?_)) (row_block X d ⟨r.val, by omega⟩ k R hR)
  have e := ValueKit.rect_emb_unit_val (s := S256x1024) ![0, 0] S128x1024.size inb_S256x1024_S128x1024_0_0 (ix2 r k) a
  match a with
  | ⟨0, _⟩ => exact e.trans (Nat.zero_add _)
  | ⟨1, _⟩ => exact e.trans (Nat.zero_add _)

/-- The lower half sent from device `d` is rows `256 d + 128 …` of the whole. -/
theorem bot_at (d : Dev nD) (r : Fin 128) (k R : Fin 1024) (hR : R.val = 256 * d.val + 128 + r.val) : xBot m ρ d (ix3 0 r k) = X (ix2 R k) := by
  unfold xBot
  rw [pay2_at, xstg_eq, H.x d, View.readAt_apply]
  refine Eq.trans (congrArg _ (funext fun a => Fin.ext ?_)) (row_block X d ⟨128 + r.val, by omega⟩ k R (by rw [hR, Nat.add_assoc]))
  have e := ValueKit.rect_emb_unit_val (s := S256x1024) ![128, 0] S128x1024.size inb_S256x1024_S128x1024_128_0 (ix2 r k) a
  match a with
  | ⟨0, _⟩ => exact e
  | ⟨1, _⟩ => exact e.trans (Nat.zero_add _)

/-- The weights on device `c` are columns `256 c …` of the whole. -/
theorem w_at (c : Dev nD) (k : Fin 1024) (j : Fin 256) (J : Fin 1024) (hJ : J.val = 256 * c.val + j.val) : wVal m ρ c (ix2 k j) = W (ix2 k J) := by
  rw [wVal_eq, H.w c]
  exact col_block W c k j J hJ

/-- A slab of 128 rows from row `n`, multiplied and stored from row `n` on, is the block's. -/
theorem slab_eq (c : Dev nD) (off : Fin 2 → ℕ) (n : ℕ) (inb) (hoff : off = ![n, 0]) (p : FVec Ideal S128x256 .f32) (v : S1x128x1024.Idx → Elt Ideal .bf16)
    (hp : ∀ r j, p (ix2 r j) = max (∑ k : Fin 1024, v (ix3 0 r k) * k0_pay3 (wVal m ρ c) (ix2 k j)) 0)
    (hv : ∀ (r : Fin 128) (k R : Fin 1024), R.val = n + r.val → v (ix3 0 r k) = X (ix2 R k))
    (j : S128x256.Idx) : p j = part X W c ((Rect.unit (s := S1024x256) off S128x256.size inb).emb j) := by
  obtain ⟨r, l, rfl⟩ : ∃ (r : Fin 128) (l : Fin 256), j = ix2 r l := ⟨j 0, j 1, eq_ix2 j⟩
  have e := rows_place off 128 n inb hoff (ix2 r l)
  have hR : n + r.val < 1024 := by rw [← show _ = n + r.val from e.1]; exact ((Rect.unit (s := S1024x256) off S128x256.size inb).emb (ix2 r l) 0).isLt
  have hJ : 256 * c.val + l.val < 1024 := by have := c.isLt; have : nD = 4 := rfl; omega
  rw [hp, part_at X W c _ ⟨n + r.val, hR⟩ ⟨256 * c.val + l.val, hJ⟩ e.1.symm (congrArg (256 * c.val + ·) e.2.symm)]
  refine congrArg (max · 0) (Finset.sum_congr rfl fun k _ => ?_)
  rw [pay3_at, hv r k ⟨n + r.val, hR⟩ rfl, w_at ρ H c k l ⟨256 * c.val + l.val, hJ⟩ rfl]

/-- The device's own 256 rows, multiplied and stored in their place, are the block's. -/
theorem own_eq (c : Dev nD) (j : S256x256.Idx) :
    k0_pay4 (wVal m ρ c) (xTop m ρ c) (xBot m ρ c) j = part X W c ((oR1 c).emb j) := by
  obtain ⟨r, l, rfl⟩ : ∃ (r : Fin 256) (l : Fin 256), j = ix2 r l := ⟨j 0, j 1, eq_ix2 j⟩
  have e := rows_place (k0_off1 c) 256 (256 * c.val) (k0_off1_inb c) (k0_off1_eq c) (ix2 r l)
  have hc : c.val < 4 := c.isLt
  have hR : 256 * c.val + r.val < 1024 := by omega
  have hJ : 256 * c.val + l.val < 1024 := by omega
  rw [pay4_at, part_at X W c _ ⟨256 * c.val + r.val, hR⟩ ⟨256 * c.val + l.val, hJ⟩ e.1.symm (congrArg (256 * c.val + ·) e.2.symm)]
  refine congrArg (max · 0) (Finset.sum_congr rfl fun k _ => ?_)
  rw [w_at ρ H c k l ⟨256 * c.val + l.val, hJ⟩ rfl]
  refine congrArg (· * _) ?_
  split
  · exact top_at ρ H c _ k _ rfl
  · exact bot_at ρ H c _ k _ (by show 256 * c.val + r.val = 256 * c.val + 128 + (r.val - 128); omega)

/-- What the body leaves in the result's buffer on device `c` is its block of columns of the reference's result. -/
theorem out_eq (c : Dev nD) : outAt m ρ c = part X W c := by
  have h2 : (prv (prv c)).val = (c.val + 2) % 4 := by revert c; decide
  have h3 : (nxt (nxt c)).val = (c.val + 2) % 4 := by revert c; decide
  unfold outAt
  refine stores_eq (F := Ideal) c _ _ _ _ _ _ _ _ (part X W c) (own_eq ρ H c) ?_ ?_ ?_ ?_ ?_ ?_
  · exact slab_eq ρ H c _ _ _ (k0_off2_eq c) _ (xTop m ρ (prv c)) (pay5_at _ _) fun r k R hR => top_at ρ H _ r k R hR
  · exact slab_eq ρ H c _ _ _ (k0_off3_eq c 0) _ (xBot m ρ (nxt c)) (pay6_at _ _) fun r k R hR => bot_at ρ H _ r k R hR
  · exact slab_eq ρ H c _ _ _ (k0_off4_eq c) _ (xBot m ρ (prv c)) (pay7_at _ _) fun r k R hR => bot_at ρ H _ r k R hR
  · exact slab_eq ρ H c _ _ _ (k0_off5_eq c 0) _ (xTop m ρ (nxt c)) (pay8_at _ _) fun r k R hR => top_at ρ H _ r k R hR
  · exact slab_eq ρ H c _ _ _ (k0_off5_eq c 1) _ (xTop m ρ (prv (prv c))) (pay9_at _ _) fun r k R hR => top_at ρ H _ r k R (by rw [h2]; exact hR)
  · exact slab_eq ρ H c _ _ _ (k0_off3_eq c 1) _ (xBot m ρ (nxt (nxt c))) (pay11_at _ _) fun r k R hR => bot_at ρ H _ r k R (by rw [h3]; exact hR)
end

end Cert.Relay

end
-- ==== Proof.lean ====
/-
# The claim

The frames of the kernel, at the bit-exact values and at the extended reals, are one run proved for any float values
(Proof/Run.lean). The reference's frame is its straight-line run. The value claim reads both runs: each device's result
array ends at its block of columns of the reference's result (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.Relay

instance : Cert.Kernel.Facts := Cert.Kernel.Gen.facts
instance : Cert.KernelIdeal.Facts := Cert.KernelIdeal.Gen.facts
instance : Cert.ReferenceIdeal.Facts := Cert.ReferenceIdeal.Gen.facts

/-- For any float values every execution of the kernel ends, the arguments as they were, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := F) m ρ)

/-- The two programs' body tables are the same text. -/
theorem bodies_same {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (_, _) => rfl
  | ⟨_ + 1, h⟩, _ => exact absurd h (Nat.not_lt.2 (Nat.le_add_left _ _))

/-- So their tables with the pipelines are the same. -/
theorem tables_same {F : FTy → Type} [FloatOps F] : Cert.Kernel.defs (F := F) = Cert.KernelIdeal.defs (F := F) :=
  congrArg (Pipeline.defs (Cert.KernelIdeal.pcfgs (F := F))) bodies_same

/-- So the frame holds at the bit-exact values, -/
theorem frame_kernel : Cert.quiescent_Kernel := fun m ρ _ => by
  have h := frame_any (F := Bits) m ρ
  rw [← tables_same] at h
  exact h

/-- and at the extended reals. -/
theorem frame_kernelIdeal : Cert.quiescent_KernelIdeal := fun m ρ _ => frame_any (F := Ideal) m ρ

/-- The reference ends with its arguments as they were; it has no counters. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Where the devices hold their blocks of the reference's arguments, each ends holding its block of the reference's result. -/
theorem value : Cert.algebraic_KernelIdeal_ReferenceIdeal := by
  intro m ρ m' ρ' _ hagree
  refine ⟨whole (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c (2 : Fin 3)).trans (finalA_o m ρ c)).trans (out_eq ρ ⟨fun d => (hagree d).1, fun d => (hagree d).2⟩ c),
        (h.1 c (0 : Fin 3)).trans (finalA_x m ρ c), (h.1 c (1 : Fin 3)).trans (finalA_w m ρ c)⟩)
      (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
